-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelX (m : (ℓ : Loc Cert.KernelX.nD Cert.KernelX.τ Cert.KernelX.sig) → Buf (Elt Bits) ℓ) : Prop :=
  True

def Pre_KernelXIdeal (m : (ℓ : Loc Cert.KernelXIdeal.nD Cert.KernelXIdeal.τ Cert.KernelXIdeal.sig) → Buf (Elt Ideal) ℓ) : Prop :=
  True

def Pre_ReferenceXIdeal (m : (ℓ : Loc Cert.ReferenceXIdeal.nD Cert.ReferenceXIdeal.τ Cert.ReferenceXIdeal.sig) → Buf (Elt Ideal) ℓ) : Prop :=
  True

def Pre_KernelDy (m : (ℓ : Loc Cert.KernelDy.nD Cert.KernelDy.τ Cert.KernelDy.sig) → Buf (Elt Bits) ℓ) : Prop :=
  True

def Pre_KernelDyIdeal (m : (ℓ : Loc Cert.KernelDyIdeal.nD Cert.KernelDyIdeal.τ Cert.KernelDyIdeal.sig) → Buf (Elt Ideal) ℓ) : Prop :=
  True

def Pre_ReferenceDyIdeal (m : (ℓ : Loc Cert.ReferenceDyIdeal.nD Cert.ReferenceDyIdeal.τ Cert.ReferenceDyIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelX [hKernelX : Cert.KernelX.Facts] : Prop :=
  ∀ (m : (ℓ : Loc Cert.KernelX.nD Cert.KernelX.τ Cert.KernelX.sig) → Buf (Elt Bits) ℓ) (g : Dev Cert.KernelX.nD → PrngReg), Pre_KernelX m →
    θ_run (Cert.KernelX.defs (F := Bits)) (onTc (τ := Cert.KernelX.τ) (Cert.KernelX.main (F := Bits))) ⟨m, fun _ => 0, g⟩ (fun r => (∀ c : Dev Cert.KernelX.nD,
      r.2.mem ((c.tc : Thread Cert.KernelX.nD Cert.KernelX.τ).loc Cert.KernelX.main_arg0) = m ((c.tc : Thread Cert.KernelX.nD Cert.KernelX.τ).loc Cert.KernelX.main_arg0))
      ∧ r.2.sem = fun _ => 0)

def quiescent_KernelXIdeal [hKernelXIdeal : Cert.KernelXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0))
      ∧ r.2.sem = fun _ => 0)

def quiescent_ReferenceXIdeal [hReferenceXIdeal : Cert.ReferenceXIdeal.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0))
      ∧ r.2.sem = fun _ => 0)

def quiescent_KernelDy [hKernelDy : Cert.KernelDy.Facts] : Prop :=
  ∀ (m : (ℓ : Loc Cert.KernelDy.nD Cert.KernelDy.τ Cert.KernelDy.sig) → Buf (Elt Bits) ℓ) (g : Dev Cert.KernelDy.nD → PrngReg), Pre_KernelDy m →
    θ_run (Cert.KernelDy.defs (F := Bits)) (onTc (τ := Cert.KernelDy.τ) (Cert.KernelDy.main (F := Bits))) ⟨m, fun _ => 0, g⟩ (fun r => (∀ c : Dev Cert.KernelDy.nD,
      r.2.mem ((c.tc : Thread Cert.KernelDy.nD Cert.KernelDy.τ).loc Cert.KernelDy.main_arg0) = m ((c.tc : Thread Cert.KernelDy.nD Cert.KernelDy.τ).loc Cert.KernelDy.main_arg0))
      ∧ r.2.sem = fun _ => 0)

def quiescent_KernelDyIdeal [hKernelDyIdeal : Cert.KernelDyIdeal.Facts] : Prop :=
  ∀ (m : (ℓ : Loc Cert.KernelDyIdeal.nD Cert.KernelDyIdeal.τ Cert.KernelDyIdeal.sig) → Buf (Elt Ideal) ℓ) (g : Dev Cert.KernelDyIdeal.nD → PrngReg), Pre_KernelDyIdeal m →
    θ_run (Cert.KernelDyIdeal.defs (F := Ideal)) (onTc (τ := Cert.KernelDyIdeal.τ) (Cert.KernelDyIdeal.main (F := Ideal))) ⟨m, fun _ => 0, g⟩ (fun r => (∀ c : Dev Cert.KernelDyIdeal.nD,
      r.2.mem ((c.tc : Thread Cert.KernelDyIdeal.nD Cert.KernelDyIdeal.τ).loc Cert.KernelDyIdeal.main_arg0) = m ((c.tc : Thread Cert.KernelDyIdeal.nD Cert.KernelDyIdeal.τ).loc Cert.KernelDyIdeal.main_arg0))
      ∧ r.2.sem = fun _ => 0)

def quiescent_ReferenceDyIdeal [hReferenceDyIdeal : Cert.ReferenceDyIdeal.Facts] : Prop :=
  ∀ (m : (ℓ : Loc Cert.ReferenceDyIdeal.nD Cert.ReferenceDyIdeal.τ Cert.ReferenceDyIdeal.sig) → Buf (Elt Ideal) ℓ) (g : Dev Cert.ReferenceDyIdeal.nD → PrngReg), Pre_ReferenceDyIdeal m →
    θ_run (Cert.ReferenceDyIdeal.defs (F := Ideal)) (onTc (τ := Cert.ReferenceDyIdeal.τ) (Cert.ReferenceDyIdeal.main (F := Ideal))) ⟨m, fun _ => 0, g⟩ (fun r => (∀ c : Dev Cert.ReferenceDyIdeal.nD,
      r.2.mem ((c.tc : Thread Cert.ReferenceDyIdeal.nD Cert.ReferenceDyIdeal.τ).loc Cert.ReferenceDyIdeal.main_arg0) = m ((c.tc : Thread Cert.ReferenceDyIdeal.nD Cert.ReferenceDyIdeal.τ).loc Cert.ReferenceDyIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelX_KernelXIdeal : Prop :=
  True

def algebraic_KernelXIdeal_ReferenceXIdeal [hKernelXIdeal : Cert.KernelXIdeal.Facts] [hReferenceXIdeal : Cert.ReferenceXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg)
    (m' : (ℓ : Loc Cert.ReferenceXIdeal.nD Cert.ReferenceXIdeal.τ Cert.ReferenceXIdeal.sig) → Buf (Elt Ideal) ℓ) (g' : Dev Cert.ReferenceXIdeal.nD → PrngReg), Pre_KernelXIdeal m →
    (∀ c : Dev Cert.KernelXIdeal.nD,
      m' ((c.tc : Thread Cert.ReferenceXIdeal.nD Cert.ReferenceXIdeal.τ).loc Cert.ReferenceXIdeal.main_arg0) = m ((c.tc : Thread Cert.KernelXIdeal.nD Cert.KernelXIdeal.τ).loc Cert.KernelXIdeal.main_arg0)) →
    ∃ (v0 : (c : Dev Cert.KernelXIdeal.nD) → Buf (Elt Ideal) ((c.tc : Thread Cert.KernelXIdeal.nD Cert.KernelXIdeal.τ).loc Cert.KernelXIdeal.main_v46)) (v1 : (c : Dev Cert.KernelXIdeal.nD) → Buf (Elt Ideal) ((c.tc : Thread Cert.KernelXIdeal.nD Cert.KernelXIdeal.τ).loc Cert.KernelXIdeal.main_v33)) (v2 : (c : Dev Cert.KernelXIdeal.nD) → Buf (Elt Ideal) ((c.tc : Thread Cert.KernelXIdeal.nD Cert.KernelXIdeal.τ).loc Cert.KernelXIdeal.main_v45)),
      θ_run (Cert.KernelXIdeal.defs (F := Ideal)) (onTc (τ := Cert.KernelXIdeal.τ) (Cert.KernelXIdeal.main (F := Ideal))) ⟨m, fun _ => 0, g⟩ (fun r => ∀ c : Dev Cert.KernelXIdeal.nD,
          r.2.mem ((c.tc : Thread Cert.KernelXIdeal.nD Cert.KernelXIdeal.τ).loc Cert.KernelXIdeal.main_v46) = v0 c
          ∧ r.2.mem ((c.tc : Thread Cert.KernelXIdeal.nD Cert.KernelXIdeal.τ).loc Cert.KernelXIdeal.main_v33) = v1 c
          ∧ r.2.mem ((c.tc : Thread Cert.KernelXIdeal.nD Cert.KernelXIdeal.τ).loc Cert.KernelXIdeal.main_v45) = v2 c
          ∧ r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0))
      ∧ θ_run (Cert.ReferenceXIdeal.defs (F := Ideal)) (onTc (τ := Cert.ReferenceXIdeal.τ) (Cert.ReferenceXIdeal.main (F := Ideal))) ⟨m', fun _ => 0, g'⟩ (fun r => ∀ c : Dev Cert.ReferenceXIdeal.nD,
          r.2.mem ((c.tc : Thread Cert.ReferenceXIdeal.nD Cert.ReferenceXIdeal.τ).loc Cert.ReferenceXIdeal.main_v47) = v0 c
          ∧ r.2.mem ((c.tc : Thread Cert.ReferenceXIdeal.nD Cert.ReferenceXIdeal.τ).loc Cert.ReferenceXIdeal.main_v32) = v1 c
          ∧ r.2.mem ((c.tc : Thread Cert.ReferenceXIdeal.nD Cert.ReferenceXIdeal.τ).loc Cert.ReferenceXIdeal.main_v44) = v2 c
          ∧ r.2.mem ((c.tc : Thread Cert.ReferenceXIdeal.nD Cert.ReferenceXIdeal.τ).loc Cert.ReferenceXIdeal.main_arg0) = m' ((c.tc : Thread Cert.ReferenceXIdeal.nD Cert.ReferenceXIdeal.τ).loc Cert.ReferenceXIdeal.main_arg0))

def preserves_KernelDy_KernelDyIdeal : Prop :=
  True

def algebraic_KernelDyIdeal_ReferenceDyIdeal [hKernelDyIdeal : Cert.KernelDyIdeal.Facts] [hReferenceDyIdeal : Cert.ReferenceDyIdeal.Facts] : Prop :=
  ∀ (m : (ℓ : Loc Cert.KernelDyIdeal.nD Cert.KernelDyIdeal.τ Cert.KernelDyIdeal.sig) → Buf (Elt Ideal) ℓ) (g : Dev Cert.KernelDyIdeal.nD → PrngReg)
    (m' : (ℓ : Loc Cert.ReferenceDyIdeal.nD Cert.ReferenceDyIdeal.τ Cert.ReferenceDyIdeal.sig) → Buf (Elt Ideal) ℓ) (g' : Dev Cert.ReferenceDyIdeal.nD → PrngReg), Pre_KernelDyIdeal m →
    (∀ c : Dev Cert.KernelDyIdeal.nD,
      m' ((c.tc : Thread Cert.ReferenceDyIdeal.nD Cert.ReferenceDyIdeal.τ).loc Cert.ReferenceDyIdeal.main_arg0) = m ((c.tc : Thread Cert.KernelDyIdeal.nD Cert.KernelDyIdeal.τ).loc Cert.KernelDyIdeal.main_arg0)) →
    ∃ (v0 : (c : Dev Cert.KernelDyIdeal.nD) → Buf (Elt Ideal) ((c.tc : Thread Cert.KernelDyIdeal.nD Cert.KernelDyIdeal.τ).loc Cert.KernelDyIdeal.main_v33)) (v1 : (c : Dev Cert.KernelDyIdeal.nD) → Buf (Elt Ideal) ((c.tc : Thread Cert.KernelDyIdeal.nD Cert.KernelDyIdeal.τ).loc Cert.KernelDyIdeal.main_v45)),
      θ_run (Cert.KernelDyIdeal.defs (F := Ideal)) (onTc (τ := Cert.KernelDyIdeal.τ) (Cert.KernelDyIdeal.main (F := Ideal))) ⟨m, fun _ => 0, g⟩ (fun r => ∀ c : Dev Cert.KernelDyIdeal.nD,
          r.2.mem ((c.tc : Thread Cert.KernelDyIdeal.nD Cert.KernelDyIdeal.τ).loc Cert.KernelDyIdeal.main_v33) = v0 c
          ∧ r.2.mem ((c.tc : Thread Cert.KernelDyIdeal.nD Cert.KernelDyIdeal.τ).loc Cert.KernelDyIdeal.main_v45) = v1 c
          ∧ r.2.mem ((c.tc : Thread Cert.KernelDyIdeal.nD Cert.KernelDyIdeal.τ).loc Cert.KernelDyIdeal.main_arg0) = m ((c.tc : Thread Cert.KernelDyIdeal.nD Cert.KernelDyIdeal.τ).loc Cert.KernelDyIdeal.main_arg0))
      ∧ θ_run (Cert.ReferenceDyIdeal.defs (F := Ideal)) (onTc (τ := Cert.ReferenceDyIdeal.τ) (Cert.ReferenceDyIdeal.main (F := Ideal))) ⟨m', fun _ => 0, g'⟩ (fun r => ∀ c : Dev Cert.ReferenceDyIdeal.nD,
          r.2.mem ((c.tc : Thread Cert.ReferenceDyIdeal.nD Cert.ReferenceDyIdeal.τ).loc Cert.ReferenceDyIdeal.main_v32) = v0 c
          ∧ r.2.mem ((c.tc : Thread Cert.ReferenceDyIdeal.nD Cert.ReferenceDyIdeal.τ).loc Cert.ReferenceDyIdeal.main_v44) = v1 c
          ∧ r.2.mem ((c.tc : Thread Cert.ReferenceDyIdeal.nD Cert.ReferenceDyIdeal.τ).loc Cert.ReferenceDyIdeal.main_arg0) = m' ((c.tc : Thread Cert.ReferenceDyIdeal.nD Cert.ReferenceDyIdeal.τ).loc Cert.ReferenceDyIdeal.main_arg0))

def Claim : Prop :=
  ∃ (hKernel : Cert.Kernel.Facts) (hKernelIdeal : Cert.KernelIdeal.Facts) (hReferenceIdeal : Cert.ReferenceIdeal.Facts) (hKernelX : Cert.KernelX.Facts) (hKernelXIdeal : Cert.KernelXIdeal.Facts) (hReferenceXIdeal : Cert.ReferenceXIdeal.Facts) (hKernelDy : Cert.KernelDy.Facts) (hKernelDyIdeal : Cert.KernelDyIdeal.Facts) (hReferenceDyIdeal : Cert.ReferenceDyIdeal.Facts),
    quiescent_Kernel (hKernel := hKernel)
    ∧ quiescent_KernelIdeal (hKernelIdeal := hKernelIdeal)
    ∧ quiescent_ReferenceIdeal (hReferenceIdeal := hReferenceIdeal)
    ∧ quiescent_KernelX (hKernelX := hKernelX)
    ∧ quiescent_KernelXIdeal (hKernelXIdeal := hKernelXIdeal)
    ∧ quiescent_ReferenceXIdeal (hReferenceXIdeal := hReferenceXIdeal)
    ∧ quiescent_KernelDy (hKernelDy := hKernelDy)
    ∧ quiescent_KernelDyIdeal (hKernelDyIdeal := hKernelDyIdeal)
    ∧ quiescent_ReferenceDyIdeal (hReferenceDyIdeal := hReferenceDyIdeal)
    ∧ preserves_Kernel_KernelIdeal
    ∧ algebraic_KernelIdeal_ReferenceIdeal (hKernelIdeal := hKernelIdeal) (hReferenceIdeal := hReferenceIdeal)
    ∧ preserves_KernelX_KernelXIdeal
    ∧ algebraic_KernelXIdeal_ReferenceXIdeal (hKernelXIdeal := hKernelXIdeal) (hReferenceXIdeal := hReferenceXIdeal)
    ∧ preserves_KernelDy_KernelDyIdeal
    ∧ algebraic_KernelDyIdeal_ReferenceDyIdeal (hKernelDyIdeal := hKernelDyIdeal) (hReferenceDyIdeal := hReferenceDyIdeal)
-- ==== Kernel.lean ====
abbrev S1664x32768 : Shape := ⟨2, ![1664, 32768]⟩
abbrev S1 : Shape := ⟨1, ![1]⟩
abbrev S4x8192x19584 : Shape := ⟨3, ![4, 8192, 19584]⟩
abbrev S32768x19584 : Shape := ⟨2, ![32768, 19584]⟩
abbrev S2 : Shape := ⟨1, ![2]⟩
abbrev S1664x19584 : Shape := ⟨2, ![1664, 19584]⟩
abbrev S19584x32768 : Shape := ⟨2, ![19584, 32768]⟩
abbrev S1024x256 : Shape := ⟨2, ![1024, 256]⟩
abbrev S1664x256 : Shape := ⟨2, ![1664, 256]⟩
abbrev S256x1024 : Shape := ⟨2, ![256, 1024]⟩
abbrev S_ : Shape := ⟨0, ![]⟩
abbrev S1664x1024 : Shape := ⟨2, ![1664, 1024]⟩

abbrev nBuf : Space → Nat
  | .hbm => 10
  | .vmem => 7
  | .smem => 1
  | _ => 0

abbrev bufTy : (tb : Table) → Fin (tcTables nBuf tb) → BufTy
  | .hbm, ⟨0, _⟩ => ⟨S1664x32768, .fp8e4m3⟩
  | .hbm, ⟨1, _⟩ => ⟨S1, .f32⟩
  | .hbm, ⟨2, _⟩ => ⟨S4x8192x19584, .bf16⟩
  | .hbm, ⟨3, _⟩ => ⟨S1, .f32⟩
  | .hbm, ⟨4, _⟩ => ⟨S1, .f32⟩
  | .hbm, ⟨5, _⟩ => ⟨S32768x19584, .bf16⟩
  | .hbm, ⟨6, _⟩ => ⟨S1, .f32⟩
  | .hbm, ⟨7, _⟩ => ⟨S2, .f32⟩
  | .hbm, ⟨8, _⟩ => ⟨S1664x19584, .f32⟩
  | .hbm, ⟨9, _⟩ => ⟨S19584x32768, .fp8e5m2⟩
  | .local _ .vmem, ⟨0, _⟩ => ⟨S1024x256, .bf16⟩
  | .local _ .vmem, ⟨1, _⟩ => ⟨S1024x256, .bf16⟩
  | .local _ .vmem, ⟨2, _⟩ => ⟨S1664x256, .f32⟩
  | .local _ .vmem, ⟨3, _⟩ => ⟨S1664x256, .f32⟩
  | .local _ .vmem, ⟨4, _⟩ => ⟨S256x1024, .fp8e5m2⟩
  | .local _ .vmem, ⟨5, _⟩ => ⟨S256x1024, .fp8e5m2⟩
  | .local _ .vmem, ⟨6, _⟩ => ⟨S1664x32768, .fp8e4m3⟩
  | .local _ .smem, ⟨0, _⟩ => ⟨S2, .f32⟩
  | _, _ => ⟨S1664x32768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![77, 32], ![false, false]⟩

def k0_mult1 (i : grid0.Coords) : BitVec 32 :=
  let arg1 : BitVec 32 := BitVec.ofNat 32 (i 1).val
  let c1024_i32 : BitVec 32 := 1024#32
  let v23 : BitVec 32 := Scalar.muli arg1 c1024_i32
  v23
def k0_off1 (i : grid0.Coords) : Fin 2 → Nat :=
  let c0_11 : Index := 0#32
  let arg1 : BitVec 32 := BitVec.ofNat 32 (i 1).val
  let c1024_i32 : BitVec 32 := 1024#32
  let v23 : BitVec 32 := Scalar.muli arg1 c1024_i32
  let v24 : BitVec 32 := v23
  let v25 : Index := Scalar.indexCast v24
  ![0, v25.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1664x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S1664x32768 : Shape := ⟨2, ![1664, 32768]⟩
abbrev S1 : Shape := ⟨1, ![1]⟩
abbrev S4x8192x19584 : Shape := ⟨3, ![4, 8192, 19584]⟩
abbrev S32768x19584 : Shape := ⟨2, ![32768, 19584]⟩
abbrev S19584x32768 : Shape := ⟨2, ![19584, 32768]⟩
abbrev S1664x19584 : Shape := ⟨2, ![1664, 19584]⟩

abbrev nBuf : Space → Nat
  | .hbm => 10
  | .vmem => 4
  | .smem => 2
  | _ => 0

abbrev bufTy : (tb : Table) → Fin (tcTables nBuf tb) → BufTy
  | .hbm, ⟨0, _⟩ => ⟨S1664x32768, .fp8e4m3⟩
  | .hbm, ⟨1, _⟩ => ⟨S1, .f32⟩
  | .hbm, ⟨2, _⟩ => ⟨S4x8192x19584, .bf16⟩
  | .hbm, ⟨3, _⟩ => ⟨S1, .f32⟩
  | .hbm, ⟨4, _⟩ => ⟨S1, .f32⟩
  | .hbm, ⟨5, _⟩ => ⟨S32768x19584, .bf16⟩
  | .hbm, ⟨6, _⟩ => ⟨S19584x32768, .bf16⟩
  | .hbm, ⟨7, _⟩ => ⟨S1, .f32⟩
  | .hbm, ⟨8, _⟩ => ⟨S1664x19584, .f32⟩
  | .hbm, ⟨9, _⟩ => ⟨S19584x32768, .fp8e5m2⟩
  | .local _ .vmem, ⟨0, _⟩ => ⟨S1664x32768, .fp8e4m3⟩
  | .local _ .vmem, ⟨1, _⟩ => ⟨S19584x32768, .bf16⟩
  | .local _ .vmem, ⟨2, _⟩ => ⟨S1664x19584, .f32⟩
  | .local _ .vmem, ⟨3, _⟩ => ⟨S19584x32768, .fp8e5m2⟩
  | .local _ .smem, ⟨0, _⟩ => ⟨S1, .f32⟩
  | .local _ .smem, ⟨1, _⟩ => ⟨S1, .f32⟩
  | _, _ => ⟨S1664x32768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1664x32768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S19584x32768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1664x19584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S19584x32768 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelX.lean ====
abbrev S4x8192x1664 : Shape := ⟨3, ![4, 8192, 1664]⟩
abbrev S277 : Shape := ⟨1, ![277]⟩
abbrev S32768x1664 : Shape := ⟨2, ![32768, 1664]⟩
abbrev S16x128 : Shape := ⟨2, ![16, 128]⟩
abbrev S1024x1664 : Shape := ⟨2, ![1024, 1664]⟩
abbrev S1024x128 : Shape := ⟨2, ![1024, 128]⟩
abbrev S64x16x128 : Shape := ⟨3, ![64, 16, 128]⟩
abbrev S_ : Shape := ⟨0, ![]⟩
abbrev S1 : Shape := ⟨1, ![1]⟩
abbrev S1664x32768 : Shape := ⟨2, ![1664, 32768]⟩
abbrev S1664x1024 : Shape := ⟨2, ![1664, 1024]⟩

abbrev nBuf : Space → Nat
  | .hbm => 80
  | .vmem => 7
  | .smem => 1
  | _ => 0

abbrev bufTy : (tb : Table) → Fin (tcTables nBuf tb) → BufTy
  | .hbm, ⟨0, _⟩ => ⟨S4x8192x1664, .bf16⟩
  | .hbm, ⟨1, _⟩ => ⟨S277, .f32⟩
  | .hbm, ⟨2, _⟩ => ⟨S32768x1664, .bf16⟩
  | .hbm, ⟨3, _⟩ => ⟨S16x128, .bf16⟩
  | .hbm, ⟨4, _⟩ => ⟨S16x128, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S277, .f32⟩
  | .hbm, ⟨12, _⟩ => ⟨S277, .i1⟩
  | .hbm, ⟨13, _⟩ => ⟨S277, .i32⟩
  | .hbm, ⟨14, _⟩ => ⟨S_, .i32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S_, .f32⟩
  | .hbm, ⟨21, _⟩ => ⟨S1, .f32⟩
  | .hbm, ⟨22, _⟩ => ⟨S1, .i1⟩
  | .hbm, ⟨23, _⟩ => ⟨S_, .f32⟩
  | .hbm, ⟨24, _⟩ => ⟨S1, .f32⟩
  | .hbm, ⟨25, _⟩ => ⟨S1, .i1⟩
  | .hbm, ⟨26, _⟩ => ⟨S1, .i1⟩
  | .hbm, ⟨27, _⟩ => ⟨S_, .i32⟩
  | .hbm, ⟨28, _⟩ => ⟨S_, .i32⟩
  | .hbm, ⟨29, _⟩ => ⟨S1, .i32⟩
  | .hbm, ⟨30, _⟩ => ⟨S1, .i32⟩
  | .hbm, ⟨31, _⟩ => ⟨S_, .f32⟩
  | .hbm, ⟨32, _⟩ => ⟨S1, .f32⟩
  | .hbm, ⟨33, _⟩ => ⟨S1, .i1⟩
  | .hbm, ⟨34, _⟩ => ⟨S_, .i32⟩
  | .hbm, ⟨35, _⟩ => ⟨S_, .i32⟩
  | .hbm, ⟨36, _⟩ => ⟨S1, .i32⟩
  | .hbm, ⟨37, _⟩ => ⟨S1, .i32⟩
  | .hbm, ⟨38, _⟩ => ⟨S277, .i32⟩
  | .hbm, ⟨39, _⟩ => ⟨S_, .i32⟩
  | .hbm, ⟨40, _⟩ => ⟨S277, .i32⟩
  | .hbm, ⟨41, _⟩ => ⟨S277, .i32⟩
  | .hbm, ⟨42, _⟩ => ⟨S277, .i32⟩
  | .hbm, ⟨43, _⟩ => ⟨S277, .i1⟩
  | .hbm, ⟨44, _⟩ => ⟨S_, .f32⟩
  | .hbm, ⟨45, _⟩ => ⟨S_, .f32⟩
  | .hbm, ⟨46, _⟩ => ⟨S277, .f32⟩
  | .hbm, ⟨47, _⟩ => ⟨S277, .f32⟩
  | .hbm, ⟨48, _⟩ => ⟨S_, .f32⟩
  | .hbm, ⟨49, _⟩ => ⟨S_, .f32⟩
  | .hbm, ⟨50, _⟩ => ⟨S1, .f32⟩
  | .hbm, ⟨51, _⟩ => ⟨S_, .i32⟩
  | .hbm, ⟨52, _⟩ => ⟨S1, .i32⟩
  | .hbm, ⟨53, _⟩ => ⟨S1, .i1⟩
  | .hbm, ⟨54, _⟩ => ⟨S_, .f32⟩
  | .hbm, ⟨55, _⟩ => ⟨S_, .f32⟩
  | .hbm, ⟨56, _⟩ => ⟨S1, .f32⟩
  | .hbm, ⟨57, _⟩ => ⟨S1, .f32⟩
  | .hbm, ⟨58, _⟩ => ⟨S1, .i32⟩
  | .hbm, ⟨59, _⟩ => ⟨S277, .i32⟩
  | .hbm, ⟨60, _⟩ => ⟨S_, .i32⟩
  | .hbm, ⟨61, _⟩ => ⟨S277, .i32⟩
  | .hbm, ⟨62, _⟩ => ⟨S277, .i32⟩
  | .hbm, ⟨63, _⟩ => ⟨S277, .i32⟩
  | .hbm, ⟨64, _⟩ => ⟨S277, .i1⟩
  | .hbm, ⟨65, _⟩ => ⟨S_, .f32⟩
  | .hbm, ⟨66, _⟩ => ⟨S_, .f32⟩
  | .hbm, ⟨67, _⟩ => ⟨S277, .f32⟩
  | .hbm, ⟨68, _⟩ => ⟨S277, .f32⟩
  | .hbm, ⟨69, _⟩ => ⟨S_, .f32⟩
  | .hbm, ⟨70, _⟩ => ⟨S_, .f32⟩
  | .hbm, ⟨71, _⟩ => ⟨S1, .f32⟩
  | .hbm, ⟨72, _⟩ => ⟨S_, .i32⟩
  | .hbm, ⟨73, _⟩ => ⟨S1, .i32⟩
  | .hbm, ⟨74, _⟩ => ⟨S1, .i1⟩
  | .hbm, ⟨75, _⟩ => ⟨S_, .f32⟩
  | .hbm, ⟨76, _⟩ => ⟨S_, .f32⟩
  | .hbm, ⟨77, _⟩ => ⟨S1, .f32⟩
  | .hbm, ⟨78, _⟩ => ⟨S1, .f32⟩
  | .hbm, ⟨79, _⟩ => ⟨S1664x32768, .fp8e4m3⟩
  | .local _ .vmem, ⟨0, _⟩ => ⟨S1024x1664, .bf16⟩
  | .local _ .vmem, ⟨1, _⟩ => ⟨S1024x1664, .bf16⟩
  | .local _ .vmem, ⟨2, _⟩ => ⟨S16x128, .bf16⟩
  | .local _ .vmem, ⟨3, _⟩ => ⟨S1024x1664, .bf16⟩
  | .local _ .vmem, ⟨4, _⟩ => ⟨S1024x1664, .bf16⟩
  | .local _ .vmem, ⟨5, _⟩ => ⟨S1664x1024, .fp8e4m3⟩
  | .local _ .vmem, ⟨6, _⟩ => ⟨S1664x1024, .fp8e4m3⟩
  | .local _ .smem, ⟨0, _⟩ => ⟨S1, .f32⟩
  | _, _ => ⟨S4x8192x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_5 : Ref sig .tc := ⟨.hbm, 27, rfl⟩
abbrev main_call0_v0 : Ref sig .tc := ⟨.hbm, 28, rfl⟩
abbrev main_call0_v1 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_c_7 : Ref sig .tc := ⟨.hbm, 34, rfl⟩
abbrev main_call1_v0 : Ref sig .tc := ⟨.hbm, 35, rfl⟩
abbrev main_call1_v1 : Ref sig .tc := ⟨.hbm, 36, rfl⟩
abbrev main_v22 : Ref sig .tc := ⟨.hbm, 37, rfl⟩
abbrev main_v23 : Ref sig .tc := ⟨.hbm, 38, rfl⟩
abbrev main_c_8 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_call2_v0 : Ref sig .tc := ⟨.hbm, 45, rfl⟩
abbrev main_call2_v1 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_c_11 : Ref sig .tc := ⟨.hbm, 51, rfl⟩
abbrev main_v31 : Ref sig .tc := ⟨.hbm, 52, rfl⟩
abbrev main_v32 : Ref sig .tc := ⟨.hbm, 53, rfl⟩
abbrev main_cst_12 : Ref sig .tc := ⟨.hbm, 54, rfl⟩
abbrev main_call3_v0 : Ref sig .tc := ⟨.hbm, 55, rfl⟩
abbrev main_call3_v1 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_13 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_14 : Ref sig .tc := ⟨.hbm, 65, rfl⟩
abbrev main_call4_v0 : Ref sig .tc := ⟨.hbm, 66, rfl⟩
abbrev main_call4_v1 : Ref sig .tc := ⟨.hbm, 67, rfl⟩
abbrev main_v40 : Ref sig .tc := ⟨.hbm, 68, rfl⟩
abbrev main_cst_15 : Ref sig .tc := ⟨.hbm, 69, rfl⟩
abbrev main_v41 : Ref sig .tc := ⟨.hbm, 70, rfl⟩
abbrev main_v42 : Ref sig .tc := ⟨.hbm, 71, rfl⟩
abbrev main_c_16 : Ref sig .tc := ⟨.hbm, 72, rfl⟩
abbrev main_v43 : Ref sig .tc := ⟨.hbm, 73, rfl⟩
abbrev main_v44 : Ref sig .tc := ⟨.hbm, 74, rfl⟩
abbrev main_cst_17 : Ref sig .tc := ⟨.hbm, 75, rfl⟩
abbrev main_call5_v0 : Ref sig .tc := ⟨.hbm, 76, rfl⟩
abbrev main_call5_v1 : Ref sig .tc := ⟨.hbm, 77, rfl⟩
abbrev main_v45 : Ref sig .tc := ⟨.hbm, 78, rfl⟩
abbrev main_v46 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x1664 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1664x1024 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceXIdeal.lean ====
abbrev S4x8192x1664 : Shape := ⟨3, ![4, 8192, 1664]⟩
abbrev S277 : Shape := ⟨1, ![277]⟩
abbrev S_ : Shape := ⟨0, ![]⟩
abbrev S1 : Shape := ⟨1, ![1]⟩
abbrev S32768x1664 : Shape := ⟨2, ![32768, 1664]⟩
abbrev S1664x32768 : Shape := ⟨2, ![1664, 32768]⟩

abbrev nBuf : Space → Nat
  | .hbm => 81
  | .vmem => 2
  | .smem => 1
  | _ => 0

abbrev bufTy : (tb : Table) → Fin (tcTables nBuf tb) → BufTy
  | .hbm, ⟨0, _⟩ => ⟨S4x8192x1664, .bf16⟩
  | .hbm, ⟨1, _⟩ => ⟨S277, .f32⟩
  | .hbm, ⟨2, _⟩ => ⟨S4x8192x1664, .f32⟩
  | .hbm, ⟨3, _⟩ => ⟨S4x8192x1664, .f32⟩
  | .hbm, ⟨4, _⟩ => ⟨S_, .f32⟩
  | .hbm, ⟨5, _⟩ => ⟨S_, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S277, .f32⟩
  | .hbm, ⟨11, _⟩ => ⟨S277, .i1⟩
  | .hbm, ⟨12, _⟩ => ⟨S277, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S1, .i32⟩
  | .hbm, ⟨19, _⟩ => ⟨S_, .f32⟩
  | .hbm, ⟨20, _⟩ => ⟨S1, .f32⟩
  | .hbm, ⟨21, _⟩ => ⟨S1, .i1⟩
  | .hbm, ⟨22, _⟩ => ⟨S_, .f32⟩
  | .hbm, ⟨23, _⟩ => ⟨S1, .f32⟩
  | .hbm, ⟨24, _⟩ => ⟨S1, .i1⟩
  | .hbm, ⟨25, _⟩ => ⟨S1, .i1⟩
  | .hbm, ⟨26, _⟩ => ⟨S_, .i32⟩
  | .hbm, ⟨27, _⟩ => ⟨S_, .i32⟩
  | .hbm, ⟨28, _⟩ => ⟨S1, .i32⟩
  | .hbm, ⟨29, _⟩ => ⟨S1, .i32⟩
  | .hbm, ⟨30, _⟩ => ⟨S_, .f32⟩
  | .hbm, ⟨31, _⟩ => ⟨S1, .f32⟩
  | .hbm, ⟨32, _⟩ => ⟨S1, .i1⟩
  | .hbm, ⟨33, _⟩ => ⟨S_, .i32⟩
  | .hbm, ⟨34, _⟩ => ⟨S_, .i32⟩
  | .hbm, ⟨35, _⟩ => ⟨S1, .i32⟩
  | .hbm, ⟨36, _⟩ => ⟨S1, .i32⟩
  | .hbm, ⟨37, _⟩ => ⟨S277, .i32⟩
  | .hbm, ⟨38, _⟩ => ⟨S_, .i32⟩
  | .hbm, ⟨39, _⟩ => ⟨S277, .i32⟩
  | .hbm, ⟨40, _⟩ => ⟨S277, .i32⟩
  | .hbm, ⟨41, _⟩ => ⟨S277, .i32⟩
  | .hbm, ⟨42, _⟩ => ⟨S277, .i1⟩
  | .hbm, ⟨43, _⟩ => ⟨S_, .f32⟩
  | .hbm, ⟨44, _⟩ => ⟨S_, .f32⟩
  | .hbm, ⟨45, _⟩ => ⟨S277, .f32⟩
  | .hbm, ⟨46, _⟩ => ⟨S277, .f32⟩
  | .hbm, ⟨47, _⟩ => ⟨S_, .f32⟩
  | .hbm, ⟨48, _⟩ => ⟨S_, .f32⟩
  | .hbm, ⟨49, _⟩ => ⟨S1, .f32⟩
  | .hbm, ⟨50, _⟩ => ⟨S_, .i32⟩
  | .hbm, ⟨51, _⟩ => ⟨S1, .i32⟩
  | .hbm, ⟨52, _⟩ => ⟨S1, .i1⟩
  | .hbm, ⟨53, _⟩ => ⟨S_, .f32⟩
  | .hbm, ⟨54, _⟩ => ⟨S_, .f32⟩
  | .hbm, ⟨55, _⟩ => ⟨S1, .f32⟩
  | .hbm, ⟨56, _⟩ => ⟨S1, .f32⟩
  | .hbm, ⟨57, _⟩ => ⟨S1, .i32⟩
  | .hbm, ⟨58, _⟩ => ⟨S277, .i32⟩
  | .hbm, ⟨59, _⟩ => ⟨S_, .i32⟩
  | .hbm, ⟨60, _⟩ => ⟨S277, .i32⟩
  | .hbm, ⟨61, _⟩ => ⟨S277, .i32⟩
  | .hbm, ⟨62, _⟩ => ⟨S277, .i32⟩
  | .hbm, ⟨63, _⟩ => ⟨S277, .i1⟩
  | .hbm, ⟨64, _⟩ => ⟨S_, .f32⟩
  | .hbm, ⟨65, _⟩ => ⟨S_, .f32⟩
  | .hbm, ⟨66, _⟩ => ⟨S277, .f32⟩
  | .hbm, ⟨67, _⟩ => ⟨S277, .f32⟩
  | .hbm, ⟨68, _⟩ => ⟨S_, .f32⟩
  | .hbm, ⟨69, _⟩ => ⟨S_, .f32⟩
  | .hbm, ⟨70, _⟩ => ⟨S1, .f32⟩
  | .hbm, ⟨71, _⟩ => ⟨S_, .i32⟩
  | .hbm, ⟨72, _⟩ => ⟨S1, .i32⟩
  | .hbm, ⟨73, _⟩ => ⟨S1, .i1⟩
  | .hbm, ⟨74, _⟩ => ⟨S_, .f32⟩
  | .hbm, ⟨75, _⟩ => ⟨S_, .f32⟩
  | .hbm, ⟨76, _⟩ => ⟨S1, .f32⟩
  | .hbm, ⟨77, _⟩ => ⟨S1, .f32⟩
  | .hbm, ⟨78, _⟩ => ⟨S32768x1664, .bf16⟩
  | .hbm, ⟨79, _⟩ => ⟨S1664x32768, .bf16⟩
  | .hbm, ⟨80, _⟩ => ⟨S1664x32768, .fp8e4m3⟩
  | .local _ .vmem, ⟨0, _⟩ => ⟨S1664x32768, .bf16⟩
  | .local _ .vmem, ⟨1, _⟩ => ⟨S1664x32768, .fp8e4m3⟩
  | .local _ .smem, ⟨0, _⟩ => ⟨S1, .f32⟩
  | _, _ => ⟨S4x8192x1664, .bf16⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_5 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_c_7 : Ref sig .tc := ⟨.hbm, 33, rfl⟩
abbrev main_call1_v0 : Ref sig .tc := ⟨.hbm, 34, rfl⟩
abbrev main_call1_v1 : Ref sig .tc := ⟨.hbm, 35, rfl⟩
abbrev main_v21 : Ref sig .tc := ⟨.hbm, 36, rfl⟩
abbrev main_v22 : Ref sig .tc := ⟨.hbm, 37, rfl⟩
abbrev main_c_8 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_9 : Ref sig .tc := ⟨.hbm, 43, rfl⟩
abbrev main_call2_v0 : Ref sig .tc := ⟨.hbm, 44, rfl⟩
abbrev main_call2_v1 : Ref sig .tc := ⟨.hbm, 45, rfl⟩
abbrev main_v27 : Ref sig .tc := ⟨.hbm, 46, rfl⟩
abbrev main_cst_10 : Ref sig .tc := ⟨.hbm, 47, rfl⟩
abbrev main_v28 : Ref sig .tc := ⟨.hbm, 48, rfl⟩
abbrev main_v29 : Ref sig .tc := ⟨.hbm, 49, rfl⟩
abbrev main_c_11 : Ref sig .tc := ⟨.hbm, 50, rfl⟩
abbrev main_v30 : Ref sig .tc := ⟨.hbm, 51, rfl⟩
abbrev main_v31 : Ref sig .tc := ⟨.hbm, 52, rfl⟩
abbrev main_cst_12 : Ref sig .tc := ⟨.hbm, 53, rfl⟩
abbrev main_call3_v0 : Ref sig .tc := ⟨.hbm, 54, rfl⟩
abbrev main_call3_v1 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_13 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_14 : Ref sig .tc := ⟨.hbm, 64, rfl⟩
abbrev main_call4_v0 : Ref sig .tc := ⟨.hbm, 65, rfl⟩
abbrev main_call4_v1 : Ref sig .tc := ⟨.hbm, 66, rfl⟩
abbrev main_v39 : Ref sig .tc := ⟨.hbm, 67, rfl⟩
abbrev main_cst_15 : Ref sig .tc := ⟨.hbm, 68, rfl⟩
abbrev main_v40 : Ref sig .tc := ⟨.hbm, 69, rfl⟩
abbrev main_v41 : Ref sig .tc := ⟨.hbm, 70, rfl⟩
abbrev main_c_16 : Ref sig .tc := ⟨.hbm, 71, rfl⟩
abbrev main_v42 : Ref sig .tc := ⟨.hbm, 72, rfl⟩
abbrev main_v43 : Ref sig .tc := ⟨.hbm, 73, rfl⟩
abbrev main_cst_17 : Ref sig .tc := ⟨.hbm, 74, rfl⟩
abbrev main_call5_v0 : Ref sig .tc := ⟨.hbm, 75, rfl⟩
abbrev main_call5_v1 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev cc0_stg0_0 : Ref sig .tc := ⟨.vmem, 0, rfl⟩
abbrev cc0_stg2_0 : Ref sig .tc := ⟨.vmem, 1, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1664x32768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1664x32768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelDy.lean ====
abbrev S4x8192x19584 : Shape := ⟨3, ![4, 8192, 19584]⟩
abbrev S277 : Shape := ⟨1, ![277]⟩
abbrev S32768x19584 : Shape := ⟨2, ![32768, 19584]⟩
abbrev S16x128 : Shape := ⟨2, ![16, 128]⟩
abbrev S128x19584 : Shape := ⟨2, ![128, 19584]⟩
abbrev S128x128 : Shape := ⟨2, ![128, 128]⟩
abbrev S8x16x128 : Shape := ⟨3, ![8, 16, 128]⟩
abbrev S_ : Shape := ⟨0, ![]⟩
abbrev S1 : Shape := ⟨1, ![1]⟩

abbrev nBuf : Space → Nat
  | .hbm => 79
  | .vmem => 3
  | .smem => 0
  | _ => 0

abbrev bufTy : (tb : Table) → Fin (tcTables nBuf tb) → BufTy
  | .hbm, ⟨0, _⟩ => ⟨S4x8192x19584, .bf16⟩
  | .hbm, ⟨1, _⟩ => ⟨S277, .f32⟩
  | .hbm, ⟨2, _⟩ => ⟨S32768x19584, .bf16⟩
  | .hbm, ⟨3, _⟩ => ⟨S16x128, .bf16⟩
  | .hbm, ⟨4, _⟩ => ⟨S16x128, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S277, .f32⟩
  | .hbm, ⟨12, _⟩ => ⟨S277, .i1⟩
  | .hbm, ⟨13, _⟩ => ⟨S277, .i32⟩
  | .hbm, ⟨14, _⟩ => ⟨S_, .i32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S_, .f32⟩
  | .hbm, ⟨21, _⟩ => ⟨S1, .f32⟩
  | .hbm, ⟨22, _⟩ => ⟨S1, .i1⟩
  | .hbm, ⟨23, _⟩ => ⟨S_, .f32⟩
  | .hbm, ⟨24, _⟩ => ⟨S1, .f32⟩
  | .hbm, ⟨25, _⟩ => ⟨S1, .i1⟩
  | .hbm, ⟨26, _⟩ => ⟨S1, .i1⟩
  | .hbm, ⟨27, _⟩ => ⟨S_, .i32⟩
  | .hbm, ⟨28, _⟩ => ⟨S_, .i32⟩
  | .hbm, ⟨29, _⟩ => ⟨S1, .i32⟩
  | .hbm, ⟨30, _⟩ => ⟨S1, .i32⟩
  | .hbm, ⟨31, _⟩ => ⟨S_, .f32⟩
  | .hbm, ⟨32, _⟩ => ⟨S1, .f32⟩
  | .hbm, ⟨33, _⟩ => ⟨S1, .i1⟩
  | .hbm, ⟨34, _⟩ => ⟨S_, .i32⟩
  | .hbm, ⟨35, _⟩ => ⟨S_, .i32⟩
  | .hbm, ⟨36, _⟩ => ⟨S1, .i32⟩
  | .hbm, ⟨37, _⟩ => ⟨S1, .i32⟩
  | .hbm, ⟨38, _⟩ => ⟨S277, .i32⟩
  | .hbm, ⟨39, _⟩ => ⟨S_, .i32⟩
  | .hbm, ⟨40, _⟩ => ⟨S277, .i32⟩
  | .hbm, ⟨41, _⟩ => ⟨S277, .i32⟩
  | .hbm, ⟨42, _⟩ => ⟨S277, .i32⟩
  | .hbm, ⟨43, _⟩ => ⟨S277, .i1⟩
  | .hbm, ⟨44, _⟩ => ⟨S_, .f32⟩
  | .hbm, ⟨45, _⟩ => ⟨S_, .f32⟩
  | .hbm, ⟨46, _⟩ => ⟨S277, .f32⟩
  | .hbm, ⟨47, _⟩ => ⟨S277, .f32⟩
  | .hbm, ⟨48, _⟩ => ⟨S_, .f32⟩
  | .hbm, ⟨49, _⟩ => ⟨S_, .f32⟩
  | .hbm, ⟨50, _⟩ => ⟨S1, .f32⟩
  | .hbm, ⟨51, _⟩ => ⟨S_, .i32⟩
  | .hbm, ⟨52, _⟩ => ⟨S1, .i32⟩
  | .hbm, ⟨53, _⟩ => ⟨S1, .i1⟩
  | .hbm, ⟨54, _⟩ => ⟨S_, .f32⟩
  | .hbm, ⟨55, _⟩ => ⟨S_, .f32⟩
  | .hbm, ⟨56, _⟩ => ⟨S1, .f32⟩
  | .hbm, ⟨57, _⟩ => ⟨S1, .f32⟩
  | .hbm, ⟨58, _⟩ => ⟨S1, .i32⟩
  | .hbm, ⟨59, _⟩ => ⟨S277, .i32⟩
  | .hbm, ⟨60, _⟩ => ⟨S_, .i32⟩
  | .hbm, ⟨61, _⟩ => ⟨S277, .i32⟩
  | .hbm, ⟨62, _⟩ => ⟨S277, .i32⟩
  | .hbm, ⟨63, _⟩ => ⟨S277, .i32⟩
  | .hbm, ⟨64, _⟩ => ⟨S277, .i1⟩
  | .hbm, ⟨65, _⟩ => ⟨S_, .f32⟩
  | .hbm, ⟨66, _⟩ => ⟨S_, .f32⟩
  | .hbm, ⟨67, _⟩ => ⟨S277, .f32⟩
  | .hbm, ⟨68, _⟩ => ⟨S277, .f32⟩
  | .hbm, ⟨69, _⟩ => ⟨S_, .f32⟩
  | .hbm, ⟨70, _⟩ => ⟨S_, .f32⟩
  | .hbm, ⟨71, _⟩ => ⟨S1, .f32⟩
  | .hbm, ⟨72, _⟩ => ⟨S_, .i32⟩
  | .hbm, ⟨73, _⟩ => ⟨S1, .i32⟩
  | .hbm, ⟨74, _⟩ => ⟨S1, .i1⟩
  | .hbm, ⟨75, _⟩ => ⟨S_, .f32⟩
  | .hbm, ⟨76, _⟩ => ⟨S_, .f32⟩
  | .hbm, ⟨77, _⟩ => ⟨S1, .f32⟩
  | .hbm, ⟨78, _⟩ => ⟨S1, .f32⟩
  | .local _ .vmem, ⟨0, _⟩ => ⟨S128x19584, .bf16⟩
  | .local _ .vmem, ⟨1, _⟩ => ⟨S128x19584, .bf16⟩
  | .local _ .vmem, ⟨2, _⟩ => ⟨S16x128, .bf16⟩
  | _, _ => ⟨S4x8192x19584, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_5 : Ref sig .tc := ⟨.hbm, 27, rfl⟩
abbrev main_call0_v0 : Ref sig .tc := ⟨.hbm, 28, rfl⟩
abbrev main_call0_v1 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_c_7 : Ref sig .tc := ⟨.hbm, 34, rfl⟩
abbrev main_call1_v0 : Ref sig .tc := ⟨.hbm, 35, rfl⟩
abbrev main_call1_v1 : Ref sig .tc := ⟨.hbm, 36, rfl⟩
abbrev main_v22 : Ref sig .tc := ⟨.hbm, 37, rfl⟩
abbrev main_v23 : Ref sig .tc := ⟨.hbm, 38, rfl⟩
abbrev main_c_8 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_call2_v0 : Ref sig .tc := ⟨.hbm, 45, rfl⟩
abbrev main_call2_v1 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_c_11 : Ref sig .tc := ⟨.hbm, 51, rfl⟩
abbrev main_v31 : Ref sig .tc := ⟨.hbm, 52, rfl⟩
abbrev main_v32 : Ref sig .tc := ⟨.hbm, 53, rfl⟩
abbrev main_cst_12 : Ref sig .tc := ⟨.hbm, 54, rfl⟩
abbrev main_call3_v0 : Ref sig .tc := ⟨.hbm, 55, rfl⟩
abbrev main_call3_v1 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_13 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_14 : Ref sig .tc := ⟨.hbm, 65, rfl⟩
abbrev main_call4_v0 : Ref sig .tc := ⟨.hbm, 66, rfl⟩
abbrev main_call4_v1 : Ref sig .tc := ⟨.hbm, 67, rfl⟩
abbrev main_v40 : Ref sig .tc := ⟨.hbm, 68, rfl⟩
abbrev main_cst_15 : Ref sig .tc := ⟨.hbm, 69, rfl⟩
abbrev main_v41 : Ref sig .tc := ⟨.hbm, 70, rfl⟩
abbrev main_v42 : Ref sig .tc := ⟨.hbm, 71, rfl⟩
abbrev main_c_16 : Ref sig .tc := ⟨.hbm, 72, rfl⟩
abbrev main_v43 : Ref sig .tc := ⟨.hbm, 73, rfl⟩
abbrev main_v44 : Ref sig .tc := ⟨.hbm, 74, rfl⟩
abbrev main_cst_17 : Ref sig .tc := ⟨.hbm, 75, rfl⟩
abbrev main_call5_v0 : Ref sig .tc := ⟨.hbm, 76, rfl⟩
abbrev main_call5_v1 : Ref sig .tc := ⟨.hbm, 77, rfl⟩
abbrev main_v45 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x19584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceDyIdeal.lean ====
abbrev S4x8192x19584 : Shape := ⟨3, ![4, 8192, 19584]⟩
abbrev S277 : Shape := ⟨1, ![277]⟩
abbrev S_ : Shape := ⟨0, ![]⟩
abbrev S1 : Shape := ⟨1, ![1]⟩

abbrev nBuf : Space → Nat
  | .hbm => 78
  | .vmem => 0
  | .smem => 0
  | _ => 0

abbrev bufTy : (tb : Table) → Fin (tcTables nBuf tb) → BufTy
  | .hbm, ⟨0, _⟩ => ⟨S4x8192x19584, .bf16⟩
  | .hbm, ⟨1, _⟩ => ⟨S277, .f32⟩
  | .hbm, ⟨2, _⟩ => ⟨S4x8192x19584, .f32⟩
  | .hbm, ⟨3, _⟩ => ⟨S4x8192x19584, .f32⟩
  | .hbm, ⟨4, _⟩ => ⟨S_, .f32⟩
  | .hbm, ⟨5, _⟩ => ⟨S_, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S277, .f32⟩
  | .hbm, ⟨11, _⟩ => ⟨S277, .i1⟩
  | .hbm, ⟨12, _⟩ => ⟨S277, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S1, .i32⟩
  | .hbm, ⟨19, _⟩ => ⟨S_, .f32⟩
  | .hbm, ⟨20, _⟩ => ⟨S1, .f32⟩
  | .hbm, ⟨21, _⟩ => ⟨S1, .i1⟩
  | .hbm, ⟨22, _⟩ => ⟨S_, .f32⟩
  | .hbm, ⟨23, _⟩ => ⟨S1, .f32⟩
  | .hbm, ⟨24, _⟩ => ⟨S1, .i1⟩
  | .hbm, ⟨25, _⟩ => ⟨S1, .i1⟩
  | .hbm, ⟨26, _⟩ => ⟨S_, .i32⟩
  | .hbm, ⟨27, _⟩ => ⟨S_, .i32⟩
  | .hbm, ⟨28, _⟩ => ⟨S1, .i32⟩
  | .hbm, ⟨29, _⟩ => ⟨S1, .i32⟩
  | .hbm, ⟨30, _⟩ => ⟨S_, .f32⟩
  | .hbm, ⟨31, _⟩ => ⟨S1, .f32⟩
  | .hbm, ⟨32, _⟩ => ⟨S1, .i1⟩
  | .hbm, ⟨33, _⟩ => ⟨S_, .i32⟩
  | .hbm, ⟨34, _⟩ => ⟨S_, .i32⟩
  | .hbm, ⟨35, _⟩ => ⟨S1, .i32⟩
  | .hbm, ⟨36, _⟩ => ⟨S1, .i32⟩
  | .hbm, ⟨37, _⟩ => ⟨S277, .i32⟩
  | .hbm, ⟨38, _⟩ => ⟨S_, .i32⟩
  | .hbm, ⟨39, _⟩ => ⟨S277, .i32⟩
  | .hbm, ⟨40, _⟩ => ⟨S277, .i32⟩
  | .hbm, ⟨41, _⟩ => ⟨S277, .i32⟩
  | .hbm, ⟨42, _⟩ => ⟨S277, .i1⟩
  | .hbm, ⟨43, _⟩ => ⟨S_, .f32⟩
  | .hbm, ⟨44, _⟩ => ⟨S_, .f32⟩
  | .hbm, ⟨45, _⟩ => ⟨S277, .f32⟩
  | .hbm, ⟨46, _⟩ => ⟨S277, .f32⟩
  | .hbm, ⟨47, _⟩ => ⟨S_, .f32⟩
  | .hbm, ⟨48, _⟩ => ⟨S_, .f32⟩
  | .hbm, ⟨49, _⟩ => ⟨S1, .f32⟩
  | .hbm, ⟨50, _⟩ => ⟨S_, .i32⟩
  | .hbm, ⟨51, _⟩ => ⟨S1, .i32⟩
  | .hbm, ⟨52, _⟩ => ⟨S1, .i1⟩
  | .hbm, ⟨53, _⟩ => ⟨S_, .f32⟩
  | .hbm, ⟨54, _⟩ => ⟨S_, .f32⟩
  | .hbm, ⟨55, _⟩ => ⟨S1, .f32⟩
  | .hbm, ⟨56, _⟩ => ⟨S1, .f32⟩
  | .hbm, ⟨57, _⟩ => ⟨S1, .i32⟩
  | .hbm, ⟨58, _⟩ => ⟨S277, .i32⟩
  | .hbm, ⟨59, _⟩ => ⟨S_, .i32⟩
  | .hbm, ⟨60, _⟩ => ⟨S277, .i32⟩
  | .hbm, ⟨61, _⟩ => ⟨S277, .i32⟩
  | .hbm, ⟨62, _⟩ => ⟨S277, .i32⟩
  | .hbm, ⟨63, _⟩ => ⟨S277, .i1⟩
  | .hbm, ⟨64, _⟩ => ⟨S_, .f32⟩
  | .hbm, ⟨65, _⟩ => ⟨S_, .f32⟩
  | .hbm, ⟨66, _⟩ => ⟨S277, .f32⟩
  | .hbm, ⟨67, _⟩ => ⟨S277, .f32⟩
  | .hbm, ⟨68, _⟩ => ⟨S_, .f32⟩
  | .hbm, ⟨69, _⟩ => ⟨S_, .f32⟩
  | .hbm, ⟨70, _⟩ => ⟨S1, .f32⟩
  | .hbm, ⟨71, _⟩ => ⟨S_, .i32⟩
  | .hbm, ⟨72, _⟩ => ⟨S1, .i32⟩
  | .hbm, ⟨73, _⟩ => ⟨S1, .i1⟩
  | .hbm, ⟨74, _⟩ => ⟨S_, .f32⟩
  | .hbm, ⟨75, _⟩ => ⟨S_, .f32⟩
  | .hbm, ⟨76, _⟩ => ⟨S1, .f32⟩
  | .hbm, ⟨77, _⟩ => ⟨S1, .f32⟩
  | _, _ => ⟨S4x8192x19584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_5 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_c_7 : Ref sig .tc := ⟨.hbm, 33, rfl⟩
abbrev main_call1_v0 : Ref sig .tc := ⟨.hbm, 34, rfl⟩
abbrev main_call1_v1 : Ref sig .tc := ⟨.hbm, 35, rfl⟩
abbrev main_v21 : Ref sig .tc := ⟨.hbm, 36, rfl⟩
abbrev main_v22 : Ref sig .tc := ⟨.hbm, 37, rfl⟩
abbrev main_c_8 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_9 : Ref sig .tc := ⟨.hbm, 43, rfl⟩
abbrev main_call2_v0 : Ref sig .tc := ⟨.hbm, 44, rfl⟩
abbrev main_call2_v1 : Ref sig .tc := ⟨.hbm, 45, rfl⟩
abbrev main_v27 : Ref sig .tc := ⟨.hbm, 46, rfl⟩
abbrev main_cst_10 : Ref sig .tc := ⟨.hbm, 47, rfl⟩
abbrev main_v28 : Ref sig .tc := ⟨.hbm, 48, rfl⟩
abbrev main_v29 : Ref sig .tc := ⟨.hbm, 49, rfl⟩
abbrev main_c_11 : Ref sig .tc := ⟨.hbm, 50, rfl⟩
abbrev main_v30 : Ref sig .tc := ⟨.hbm, 51, rfl⟩
abbrev main_v31 : Ref sig .tc := ⟨.hbm, 52, rfl⟩
abbrev main_cst_12 : Ref sig .tc := ⟨.hbm, 53, rfl⟩
abbrev main_call3_v0 : Ref sig .tc := ⟨.hbm, 54, rfl⟩
abbrev main_call3_v1 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_13 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_14 : Ref sig .tc := ⟨.hbm, 64, rfl⟩
abbrev main_call4_v0 : Ref sig .tc := ⟨.hbm, 65, rfl⟩
abbrev main_call4_v1 : Ref sig .tc := ⟨.hbm, 66, rfl⟩
abbrev main_v39 : Ref sig .tc := ⟨.hbm, 67, rfl⟩
abbrev main_cst_15 : Ref sig .tc := ⟨.hbm, 68, rfl⟩
abbrev main_v40 : Ref sig .tc := ⟨.hbm, 69, rfl⟩
abbrev main_v41 : Ref sig .tc := ⟨.hbm, 70, rfl⟩
abbrev main_c_16 : Ref sig .tc := ⟨.hbm, 71, rfl⟩
abbrev main_v42 : Ref sig .tc := ⟨.hbm, 72, rfl⟩
abbrev main_v43 : Ref sig .tc := ⟨.hbm, 73, rfl⟩
abbrev main_cst_17 : Ref sig .tc := ⟨.hbm, 74, rfl⟩
abbrev main_call5_v0 : Ref sig .tc := ⟨.hbm, 75, rfl⟩
abbrev main_call5_v1 : Ref sig .tc := ⟨.hbm, 76, rfl⟩
abbrev main_v44 : Ref sig .tc := ⟨.hbm, 77, rfl⟩

abbrev nD : Nat := 1
abbrev τ : Topo := Topo.v7x

variable {F : FTy → Type} [FloatOps F]
-- ==== Proof.KernelBody.lean ====
/-
  The body of the weight-gradient kernel at one grid point, run once for each of the four kinds of point it has: the very
  first one (the copy of the `x` codes into the scratch), the other points that open a block of columns, the points in the
  middle of a block, and the points that close one. Each theorem states exactly what the body leaves in its buffers.
-/
module

public import proofs.«01_k».proof.Proof.Gen.Kernel.Frame
public import proofs.«01_k».proof.Proof.Gen.Kernel.Skeleton
public import Idealize.ShloMosaic.Lib.Pipeline.Frame
public import Idealize.ShloMosaic.Lib.Tactic
public import Idealize.ShloMosaic.Lib.Transfers
public import Idealize.ShloMosaic.Lib.VecWindow

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-- The scratch that holds the `x` codes, and the argument left in HBM that they are copied from, whole. -/
abbrev scM : Memref sig .tc .vmem S1664x32768 .fp8e4m3 := Memref.whole cc0_scratch0
abbrev hbM : Memref sig .tc .hbm S1664x32768 .fp8e4m3 := Memref.whole main_arg0
/-- A memref's buffer on core `c` held whole at `f`. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The two words of the scalar operand: the factor of the quantisation, and the factor of the result. -/
abbrev word0 (X : S2.Idx → Elt F .f32) : Elt F .f32 := X fun a => ⟨0, by fin_cases a; decide⟩
abbrev word1 (X : S2.Idx → Elt F .f32) : Elt F .f32 := X fun a => ⟨1, by fin_cases a; decide⟩
/-- The `x` codes that grid point `i` multiplies: the columns of its block of tokens. -/
abbrev codes (A : S1664x32768.Idx → Elt F .fp8e4m3) (i : grid0.Coords) : Vec F S1664x1024 .fp8e4m3 :=
  VecWindow.window A (k0_off1 i) S1664x1024.size (k0_off1_inb i)

/-- Reading a whole scalar operand at its first place, and at its second, gives the two words of its contents. -/
theorem readAt_word0 (v : View sig .tc .smem S2 .f32) (f : v.ty.Contents (Elt F)) (h) :
    View.readAt (Elt F) v (Rect.unit (s := S2) ![0] S1.size inb_S2_S1_0).toLoadRect f (Shape.Idx.first h) = word0 (v.read (Elt F) f) := by
  rw [View.readAt_apply]
  exact congrArg (v.read (Elt F) f) (funext fun a => by fin_cases a; rfl)
theorem readAt_word1 (v : View sig .tc .smem S2 .f32) (f : v.ty.Contents (Elt F)) (h) :
    View.readAt (Elt F) v (Rect.unit (s := S2) ![1] S1.size inb_S2_S1_1).toLoadRect f (Shape.Idx.first h) = word1 (v.read (Elt F) f) := by
  rw [View.readAt_apply]
  exact congrArg (v.read (Elt F) f) (funext fun a => by fin_cases a; rfl)

/-- A scratch written whole reads back as what was written. -/
theorem read_writes_codes (v : View sig .tc .vmem S1664x32768 .fp8e4m3) (f : v.ty.Contents (Elt F)) (w : S1664x32768.Idx → Elt F .fp8e4m3) :
    v.read (Elt F) (v.writes (Elt F) f [⟨Rect.whole S1664x32768, w⟩]) = w :=
  View.read_writes_full v f (fun a => by simp) w []

/-- The payloads of equal operands are equal. -/
theorem pay1_congr {a a' : Vec F S1664x256 .f32} {b b' : Elt F .f32} (ha : a = a') (hb : b = b') : k0_pay1 a b = k0_pay1 a' b' := by
  subst ha hb; rfl
theorem pay2_congr {a a' : Vec F S1024x256 .bf16} {b b' : Elt F .f32} (ha : a = a') (hb : b = b') : k0_pay2 a b = k0_pay2 a' b' := by
  subst ha hb; rfl
theorem pay4_congr {a a' : Vec F S1024x256 .bf16} {b b' : Elt F .f32} {r r' : Vec F S1664x256 .f32} {s s' : Vec F S1664x1024 .fp8e4m3}
    (ha : a = a') (hb : b = b') (hr : r = r') (hs : s = s') : k0_pay4 a b r s = k0_pay4 a' b' r' s' := by
  subst ha hb hr hs; rfl

/-- An equality test of two small words that differ is not taken. -/
theorem guard_false (a b : ℕ) (ha : a < 32) (hb : b < 32) (hab : a ≠ b) :
    ¬ (Scalar.cmpi .ne (Scalar.extui (Scalar.cmpi .eq (BitVec.ofNat 32 a) (BitVec.ofNat 32 b)) : BitVec 32) 0#32 = 1#1) := by
  have key : ∀ a b : Fin 32, a.val ≠ b.val →
      ¬ (Scalar.cmpi .ne (Scalar.extui (Scalar.cmpi .eq (BitVec.ofNat 32 a.val) (BitVec.ofNat 32 b.val)) : BitVec 32) 0#32 = 1#1) := by
    decide +kernel
  exact key ⟨a, ha⟩ ⟨b, hb⟩ hab

/-- The test for the very first point is not taken anywhere else. -/
theorem guard1_false (i : grid0.Coords) (hf : ¬ ((i 0).val = 0 ∧ (i 1).val = 0)) :
    ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) := by
  have h0 : (i 0).val < 77 := (i 0).isLt
  have h1 : (i 1).val < 32 := (i 1).isLt
  have key : ∀ a : Fin 77, ∀ b : Fin 32, ¬ (a.val = 0 ∧ b.val = 0) →
      ¬ (Scalar.cmpi .ne (Scalar.extui (Scalar.andi (Scalar.cmpi .eq (BitVec.ofNat 32 a.val) 0#32) (Scalar.cmpi .eq (BitVec.ofNat 32 b.val) 0#32)) : BitVec 32) 0#32 = 1#1) := by
    decide +kernel
  exact key ⟨_, h0⟩ ⟨_, h1⟩ hf

/-- At the first grid point the body copies the codes into the scratch and leaves the first block product in the result buffer. -/
theorem run_first (c : Dev nD) (i : grid0.Coords) (hn : (i 0).val = 0) (hk : (i 1).val = 0)
    (arg2 : Memref sig .tc .smem S2 .f32) (harg2 : arg2.IsWhole)
    (arg4 : Memref sig .tc .vmem S1024x256 .bf16) (harg4 : arg4.IsWhole)
    (arg5 : Memref sig .tc .vmem S1664x256 .f32) (harg5 : arg5.IsWhole)
    (arg6 : Memref sig .tc .vmem S256x1024 .fp8e5m2) (harg6 : arg6.IsWhole)
    (X0 : S2.Idx → Elt F .f32) (X1 : S1024x256.Idx → Elt F .bf16)
    (fh : Buf (Elt F) (hbM.view.loc (c : Thread nD τ))) (W : Waits sig Unit) (K : PUnit → sProp 𝕄) :
    iprop(owns (c : Thread nD τ) arg2 fullShare X0 ∗ owns (c : Thread nD τ) arg4 fullShare X1
        ∗ (∃ d, owns (c : Thread nD τ) arg5 fullShare d) ∗ (∃ d, owns (c : Thread nD τ) arg6 fullShare d)
        ∗ (∃ d, owns (c : Thread nD τ) scM fullShare d)
        ∗ semVal ((c : Thread nD τ), SemLoc.dma 7) 0 ∗ hbPt c hbM fh ∗ owes (c : Thread nD τ) 0 W
        ∗ (iprop(owns (c : Thread nD τ) arg2 fullShare X0 ∗ owns (c : Thread nD τ) arg4 fullShare X1
              ∗ owns (c : Thread nD τ) arg5 fullShare (k0_pay4 X1 (word0 X0) (k0_pay3 (F := F)) (codes (hbM.view.read (Elt F) fh) i))
              ∗ owns (c : Thread nD τ) arg6 fullShare (k0_pay2 X1 (word0 X0))
              ∗ owns (c : Thread nD τ) scM fullShare (hbM.view.read (Elt F) fh)
              ∗ semVal ((c : Thread nD τ), SemLoc.dma 7) 0 ∗ hbPt c hbM fh ∗ ∃ W', owes (c : Thread nD τ) 0 W') -∗ K ⟨⟩))
      ⊢ wp frame (wpE (defs₀ (F := F)) Variants.none c none) Set.univ
          (cc0_wgrad i arg2 harg2 hbM (Memref.isWhole_whole _) arg4 harg4 arg5 harg5 arg6 harg6 scM (Memref.isWhole_whole _) cc0_scratch1) K := by
  have h1 : (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) := by rw [hn, hk]; decide
  have h2 : (Scalar.cmpi .ne (Scalar.extui (Scalar.cmpi .eq (BitVec.ofNat 32 (i 1).val) 0#32) : BitVec 32) 0#32 = 1#1) := by rw [hk]; decide
  have h3 : ¬ (Scalar.cmpi .ne (Scalar.extui (Scalar.cmpi .eq (BitVec.ofNat 32 (i 1).val) 31#32) : BitVec 32) 0#32 = 1#1) := by rw [hk]; decide
  simp only [cc0_wgrad_eq_skeleton]; unfold cc0_wgrad_skel
  simp only [k0_part1_eq_skeleton]; unfold k0_part1_skel
  unfold owns
  iintro ⟨⟨%f2, %hf2, H2⟩, ⟨%f4, %hf4, H4⟩, ⟨%d5, %f5, -, H5⟩, ⟨%d6, %f6, -, H6⟩, ⟨%ds, %fs, -, HS⟩, Hq, Hh, HW, Hk⟩
  sl_exec (disch := first | exact h1 | exact h2 | exact h3)
  sl_step
  iapply Hk
  isplitl [H2]
  · iexists _; isplitr; swap; · iexact H2
    ipureintro; exact hf2
  isplitl [H4]
  · iexists _; isplitr; swap; · iexact H4
    ipureintro; exact hf4
  isplitl [H5]
  · iexists _; isplitr; swap; · iexact H5
    ipureintro
    exact (View.read_writes_full _ _ inb_S1664x256_S1664x256_0_0 _ _).trans (pay4_congr ((View.readAt_full _ _ _).trans hf4) ((readAt_word0 _ _ _).trans (congrArg word0 hf2)) (View.readCov_full _ _ _ _ _) ((View.readAt_unit scM.view _ _ rfl (k0_off1_inb i)).trans (congrArg (codes · i) (read_writes_codes _ _ _))))
  isplitl [H6]
  · iexists _; isplitr; swap; · iexact H6
    ipureintro
    exact (View.read_writes_full _ _ _ _ _).trans (pay2_congr ((View.readAt_full _ _ _).trans hf4) ((readAt_word0 _ _ _).trans (congrArg word0 hf2)))
  isplitl [HS]
  · iexists _; isplitr; swap; · iexact HS
    ipureintro
    exact read_writes_codes _ _ _
  isplitl [Hq]; · iexact Hq
  isplitl [Hh]; · iexact Hh
  iexists _; iexact HW

/-- At the first token block of a later column block the body clears the accumulator and leaves the block product in it. -/
theorem run_open (c : Dev nD) (i : grid0.Coords) (hf : ¬ ((i 0).val = 0 ∧ (i 1).val = 0)) (hk : (i 1).val = 0)
    (arg2 : Memref sig .tc .smem S2 .f32) (harg2 : arg2.IsWhole)
    (arg4 : Memref sig .tc .vmem S1024x256 .bf16) (harg4 : arg4.IsWhole)
    (arg5 : Memref sig .tc .vmem S1664x256 .f32) (harg5 : arg5.IsWhole)
    (arg6 : Memref sig .tc .vmem S256x1024 .fp8e5m2) (harg6 : arg6.IsWhole)
    (X0 : S2.Idx → Elt F .f32) (X1 : S1024x256.Idx → Elt F .bf16) (A : S1664x32768.Idx → Elt F .fp8e4m3) (K : PUnit → sProp 𝕄) :
    iprop(owns (c : Thread nD τ) arg2 fullShare X0 ∗ owns (c : Thread nD τ) arg4 fullShare X1
        ∗ (∃ d, owns (c : Thread nD τ) arg5 fullShare d) ∗ (∃ d, owns (c : Thread nD τ) arg6 fullShare d)
        ∗ owns (c : Thread nD τ) scM fullShare A
        ∗ (iprop(owns (c : Thread nD τ) arg2 fullShare X0 ∗ owns (c : Thread nD τ) arg4 fullShare X1
              ∗ owns (c : Thread nD τ) arg5 fullShare (k0_pay4 X1 (word0 X0) (k0_pay3 (F := F)) (codes A i))
              ∗ owns (c : Thread nD τ) arg6 fullShare (k0_pay2 X1 (word0 X0))
              ∗ owns (c : Thread nD τ) scM fullShare A) -∗ K ⟨⟩))
      ⊢ wp frame (wpE (defs₀ (F := F)) Variants.none c none) Set.univ
          (cc0_wgrad i arg2 harg2 hbM (Memref.isWhole_whole _) arg4 harg4 arg5 harg5 arg6 harg6 scM (Memref.isWhole_whole _) cc0_scratch1) K := by
  have h1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) := guard1_false i hf
  have h2 : (Scalar.cmpi .ne (Scalar.extui (Scalar.cmpi .eq (BitVec.ofNat 32 (i 1).val) 0#32) : BitVec 32) 0#32 = 1#1) := by rw [hk]; decide
  have h3 : ¬ (Scalar.cmpi .ne (Scalar.extui (Scalar.cmpi .eq (BitVec.ofNat 32 (i 1).val) 31#32) : BitVec 32) 0#32 = 1#1) := by rw [hk]; decide
  simp only [cc0_wgrad_eq_skeleton]; unfold cc0_wgrad_skel
  simp only [k0_part1_eq_skeleton]; unfold k0_part1_skel
  unfold owns
  iintro ⟨⟨%f2, %hf2, H2⟩, ⟨%f4, %hf4, H4⟩, ⟨%d5, %f5, -, H5⟩, ⟨%d6, %f6, -, H6⟩, ⟨%fs, %hfs, HS⟩, Hk⟩
  sl_exec (disch := first | exact h1 | exact h2 | exact h3)
  sl_step
  iapply Hk
  isplitl [H2]
  · iexists _; isplitr; swap; · iexact H2
    ipureintro; exact hf2
  isplitl [H4]
  · iexists _; isplitr; swap; · iexact H4
    ipureintro; exact hf4
  isplitl [H5]
  · iexists _; isplitr; swap; · iexact H5
    ipureintro
    exact (View.read_writes_full _ _ inb_S1664x256_S1664x256_0_0 _ _).trans (pay4_congr ((View.readAt_full _ _ _).trans hf4) ((readAt_word0 _ _ _).trans (congrArg word0 hf2)) (View.readCov_full _ _ _ _ _) ((View.readAt_unit scM.view _ _ rfl (k0_off1_inb i)).trans (congrArg (codes · i) hfs)))
  isplitl [H6]
  · iexists _; isplitr; swap; · iexact H6
    ipureintro
    exact (View.read_writes_full _ _ _ _ _).trans (pay2_congr ((View.readAt_full _ _ _).trans hf4) ((readAt_word0 _ _ _).trans (congrArg word0 hf2)))
  iexists _; isplitr; swap; · iexact HS
  ipureintro; exact hfs

/-- At a middle token block the body adds the block product to the accumulator. -/
theorem run_mid (c : Dev nD) (i : grid0.Coords) (hf : ¬ ((i 0).val = 0 ∧ (i 1).val = 0)) (hk0 : (i 1).val ≠ 0) (hk31 : (i 1).val ≠ 31)
    (arg2 : Memref sig .tc .smem S2 .f32) (harg2 : arg2.IsWhole)
    (arg4 : Memref sig .tc .vmem S1024x256 .bf16) (harg4 : arg4.IsWhole)
    (arg5 : Memref sig .tc .vmem S1664x256 .f32) (harg5 : arg5.IsWhole)
    (arg6 : Memref sig .tc .vmem S256x1024 .fp8e5m2) (harg6 : arg6.IsWhole)
    (X0 : S2.Idx → Elt F .f32) (X1 : S1024x256.Idx → Elt F .bf16) (X2 : S1664x256.Idx → Elt F .f32) (A : S1664x32768.Idx → Elt F .fp8e4m3) (K : PUnit → sProp 𝕄) :
    iprop(owns (c : Thread nD τ) arg2 fullShare X0 ∗ owns (c : Thread nD τ) arg4 fullShare X1
        ∗ owns (c : Thread nD τ) arg5 fullShare X2 ∗ (∃ d, owns (c : Thread nD τ) arg6 fullShare d)
        ∗ owns (c : Thread nD τ) scM fullShare A
        ∗ (iprop(owns (c : Thread nD τ) arg2 fullShare X0 ∗ owns (c : Thread nD τ) arg4 fullShare X1
              ∗ owns (c : Thread nD τ) arg5 fullShare (k0_pay4 X1 (word0 X0) X2 (codes A i))
              ∗ owns (c : Thread nD τ) arg6 fullShare (k0_pay2 X1 (word0 X0))
              ∗ owns (c : Thread nD τ) scM fullShare A) -∗ K ⟨⟩))
      ⊢ wp frame (wpE (defs₀ (F := F)) Variants.none c none) Set.univ
          (cc0_wgrad i arg2 harg2 hbM (Memref.isWhole_whole _) arg4 harg4 arg5 harg5 arg6 harg6 scM (Memref.isWhole_whole _) cc0_scratch1) K := by
  have h1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) := guard1_false i hf
  have h2 : ¬ (Scalar.cmpi .ne (Scalar.extui (Scalar.cmpi .eq (BitVec.ofNat 32 (i 1).val) 0#32) : BitVec 32) 0#32 = 1#1) := guard_false (i 1).val 0 (by have := (i 1).isLt; show _ < 32; exact this) (by decide) hk0
  have h3 : ¬ (Scalar.cmpi .ne (Scalar.extui (Scalar.cmpi .eq (BitVec.ofNat 32 (i 1).val) 31#32) : BitVec 32) 0#32 = 1#1) := guard_false (i 1).val 31 (by have := (i 1).isLt; show _ < 32; exact this) (by decide) hk31
  simp only [cc0_wgrad_eq_skeleton]; unfold cc0_wgrad_skel
  simp only [k0_part1_eq_skeleton]; unfold k0_part1_skel
  unfold owns
  iintro ⟨⟨%f2, %hf2, H2⟩, ⟨%f4, %hf4, H4⟩, ⟨%f5, %hf5, H5⟩, ⟨%d6, %f6, -, H6⟩, ⟨%fs, %hfs, HS⟩, Hk⟩
  sl_exec (disch := first | exact h1 | exact h2 | exact h3)
  sl_step
  iapply Hk
  isplitl [H2]
  · iexists _; isplitr; swap; · iexact H2
    ipureintro; exact hf2
  isplitl [H4]
  · iexists _; isplitr; swap; · iexact H4
    ipureintro; exact hf4
  isplitl [H5]
  · iexists _; isplitr; swap; · iexact H5
    ipureintro
    exact (View.read_writes_full _ _ inb_S1664x256_S1664x256_0_0 _ _).trans (pay4_congr ((View.readAt_full _ _ _).trans hf4) ((readAt_word0 _ _ _).trans (congrArg word0 hf2)) ((View.readAt_full _ _ _).trans hf5) ((View.readAt_unit scM.view _ _ rfl (k0_off1_inb i)).trans (congrArg (codes · i) hfs)))
  isplitl [H6]
  · iexists _; isplitr; swap; · iexact H6
    ipureintro
    exact (View.read_writes_full _ _ _ _ _).trans (pay2_congr ((View.readAt_full _ _ _).trans hf4) ((readAt_word0 _ _ _).trans (congrArg word0 hf2)))
  iexists _; isplitr; swap; · iexact HS
  ipureintro; exact hfs

/-- At the last token block the body adds the block product and multiplies by the result factor. -/
theorem run_close (c : Dev nD) (i : grid0.Coords) (hf : ¬ ((i 0).val = 0 ∧ (i 1).val = 0)) (hk : (i 1).val = 31)
    (arg2 : Memref sig .tc .smem S2 .f32) (harg2 : arg2.IsWhole)
    (arg4 : Memref sig .tc .vmem S1024x256 .bf16) (harg4 : arg4.IsWhole)
    (arg5 : Memref sig .tc .vmem S1664x256 .f32) (harg5 : arg5.IsWhole)
    (arg6 : Memref sig .tc .vmem S256x1024 .fp8e5m2) (harg6 : arg6.IsWhole)
    (X0 : S2.Idx → Elt F .f32) (X1 : S1024x256.Idx → Elt F .bf16) (X2 : S1664x256.Idx → Elt F .f32) (A : S1664x32768.Idx → Elt F .fp8e4m3) (K : PUnit → sProp 𝕄) :
    iprop(owns (c : Thread nD τ) arg2 fullShare X0 ∗ owns (c : Thread nD τ) arg4 fullShare X1
        ∗ owns (c : Thread nD τ) arg5 fullShare X2 ∗ (∃ d, owns (c : Thread nD τ) arg6 fullShare d)
        ∗ owns (c : Thread nD τ) scM fullShare A
        ∗ (iprop(owns (c : Thread nD τ) arg2 fullShare X0 ∗ owns (c : Thread nD τ) arg4 fullShare X1
              ∗ owns (c : Thread nD τ) arg5 fullShare (k0_pay1 (k0_pay4 X1 (word0 X0) X2 (codes A i)) (word1 X0))
              ∗ owns (c : Thread nD τ) arg6 fullShare (k0_pay2 X1 (word0 X0))
              ∗ owns (c : Thread nD τ) scM fullShare A) -∗ K ⟨⟩))
      ⊢ wp frame (wpE (defs₀ (F := F)) Variants.none c none) Set.univ
          (cc0_wgrad i arg2 harg2 hbM (Memref.isWhole_whole _) arg4 harg4 arg5 harg5 arg6 harg6 scM (Memref.isWhole_whole _) cc0_scratch1) K := by
  have h1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) := guard1_false i hf
  have h2 : ¬ (Scalar.cmpi .ne (Scalar.extui (Scalar.cmpi .eq (BitVec.ofNat 32 (i 1).val) 0#32) : BitVec 32) 0#32 = 1#1) := by rw [hk]; decide
  have h3 : (Scalar.cmpi .ne (Scalar.extui (Scalar.cmpi .eq (BitVec.ofNat 32 (i 1).val) 31#32) : BitVec 32) 0#32 = 1#1) := by rw [hk]; decide
  simp only [cc0_wgrad_eq_skeleton]; unfold cc0_wgrad_skel
  simp only [k0_part1_eq_skeleton]; unfold k0_part1_skel
  unfold owns
  iintro ⟨⟨%f2, %hf2, H2⟩, ⟨%f4, %hf4, H4⟩, ⟨%f5, %hf5, H5⟩, ⟨%d6, %f6, -, H6⟩, ⟨%fs, %hfs, HS⟩, Hk⟩
  sl_exec (disch := first | exact h1 | exact h2 | exact h3)
  sl_step
  iapply Hk
  isplitl [H2]
  · iexists _; isplitr; swap; · iexact H2
    ipureintro; exact hf2
  isplitl [H4]
  · iexists _; isplitr; swap; · iexact H4
    ipureintro; exact hf4
  isplitl [H5]
  · iexists _; isplitr; swap; · iexact H5
    ipureintro
    exact (View.read_writes_full _ _ inb_S1664x256_S1664x256_0_0 _ _).trans (pay1_congr ((View.readCov_full _ _ _ _ _).trans (pay4_congr ((View.readAt_full _ _ _).trans hf4) ((readAt_word0 _ _ _).trans (congrArg word0 hf2)) ((View.readAt_full _ _ _).trans hf5) ((View.readAt_unit scM.view _ _ rfl (k0_off1_inb i)).trans (congrArg (codes · i) hfs)))) ((readAt_word1 _ _ _).trans (congrArg word1 hf2)))
  isplitl [H6]
  · iexists _; isplitr; swap; · iexact H6
    ipureintro
    exact (View.read_writes_full _ _ _ _ _).trans (pay2_congr ((View.readAt_full _ _ _).trans hf4) ((readAt_word0 _ _ _).trans (congrArg word0 hf2)))
  iexists _; isplitr; swap; · iexact HS
  ipureintro; exact hfs

end Cert.Kernel.Hand

end
-- ==== Proof.KernelLaunch.lean ====
/-
  What the launch of the weight-gradient kernel needs whatever is claimed of it: its own transfer's counter, the argument left
  in HBM, what is held between two grid points, the coordinates of a grid point, and the program up to the kernel.
-/
module

public import proofs.«01_k».proof.Proof.KernelBody

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The one counter the kernel's own transfer uses. -/
abbrev osem0 : Fin 1 → SemLoc sig := fun j => (![SemLoc.dma 7] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0) := by
  rw [Pipeline.ownSems0_eq_of_list c osem0 [0] (by decide) (by decide)]; rfl
/-- The `x` codes, left in HBM: no window stages them. -/
def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt c hbM (V m c main_arg0)) := by
  rw [BI.bigSep_eq_bigSepL_of_eq [main_arg0] (by decide) (by decide)]; rfl

/-- What the launch hands over beside the windows: the scratch at some contents, the generator register, the counter at zero,
    the `x` codes as they were. -/
theorem PhiD0_eq (c : Dev nD) :
    (Pipeline.ΦD osem0 spec0 H0 (V m) c : sProp 𝕄)
      = iprop(iprop((∃ d, owns (c : Thread nD τ) scM fullShare d)) ∗ (∃ r, prngReg c r)
          ∗ iprop(semVal ((c : Thread nD τ), SemLoc.dma 7) 0) ∗ iprop(hbPt c hbM (V m c main_arg0))) := by
  rw [Pipeline.ΦD_eq, scopedRest0_eq, ownSems00_eq, hbmPts0_eq]; simp only [scM, owns_whole]; try rfl

/-- Grid point `t` is column block `t / 32` and token block `t % 32`. -/
theorem coords0 (t : Fin cfg0.N) : (grid0.coords t 0).val = t.val / 32 := by
  have ht : t.val < 2464 := lt_of_lt_of_eq t.isLt N_0
  have h := Pipeline.Grid.coords_val (G := grid0) t 0 (S := 32) (B := 77) (by decide) rfl
  rw [h]; exact Nat.mod_eq_of_lt (by omega)
theorem coords1 (t : Fin cfg0.N) : (grid0.coords t 1).val = t.val % 32 := by
  have h := Pipeline.Grid.coords_val (G := grid0) t 1 (S := 1) (B := 32) (by decide) rfl
  rw [h, Nat.div_one]

/-- Window 0 is uncut and its block never moves: its buffer holds its block at every point. -/
theorem before0_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 is fetched at every point: its buffer holds its block, and anything past the array's last column. -/
theorem before0_1 {c : Dev nD} (dat : Dat τ (Elt F) Unit ℕ (Pipeline.UD sig nD τ) ℕ cfg0 c) (hA : dat.A 1 = V m c (Pipeline.arrRef spec0 1))
    (t : Fin cfg0.N) (d) : dat.before 1 t d = win0_1.fill (grid0.coords t) d (iblk m c 1 t) := by
  unfold Dat.before; rw [if_pos (fetch0_1 t)]; unfold Dat.fetched Dat.blockOf iblk; rw [hA]; try rfl

/-- The body table's row at the point is the body there. -/
theorem defs₀_row (t : Fin cfg0.N) : defs₀ (F := F) .tc cfg0.body (cfg0.bodyArgs t (cfg0.slots t)) = bodyAt0 t := by
  unfold defs₀; rw [Defs.onTc_tc]

set_option maxHeartbeats 800000 in
/-- The program up to the kernel: the host operations, then the region. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

end Cert.Kernel.Hand

end
-- ==== Proof.KernelFrame.lean ====
/-
  The frame of the weight-gradient program at any float values: it runs to its end without a fault, its arguments end
  unchanged and every counter ends at zero. Nothing is said here of its two results.
-/
module

public import proofs.«01_k».proof.Proof.KernelLaunch

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The two results' windows: nothing here reads what the kernel leaves in them. -/
def forgets0 : Fin 4 → Bool := fun | 0 => false | 1 => false | 2 => true | 3 => true | ⟨_ + 4, h⟩ => absurd h (Nat.not_lt.2 (Nat.le_add_left _ _))

/-- The body at any point, from any contents of the results' buffers and of the scratch. -/
theorem run_any (c : Dev nD) (i : grid0.Coords)
    (arg2 : Memref sig .tc .smem S2 .f32) (harg2 : arg2.IsWhole)
    (arg4 : Memref sig .tc .vmem S1024x256 .bf16) (harg4 : arg4.IsWhole)
    (arg5 : Memref sig .tc .vmem S1664x256 .f32) (harg5 : arg5.IsWhole)
    (arg6 : Memref sig .tc .vmem S256x1024 .fp8e5m2) (harg6 : arg6.IsWhole)
    (X0 : S2.Idx → Elt F .f32) (X1 : S1024x256.Idx → Elt F .bf16)
    (fh : Buf (Elt F) (hbM.view.loc (c : Thread nD τ))) (W : Waits sig Unit) (K : PUnit → sProp 𝕄) :
    iprop(owns (c : Thread nD τ) arg2 fullShare X0 ∗ owns (c : Thread nD τ) arg4 fullShare X1
        ∗ (∃ d, owns (c : Thread nD τ) arg5 fullShare d) ∗ (∃ d, owns (c : Thread nD τ) arg6 fullShare d)
        ∗ (∃ d, owns (c : Thread nD τ) scM fullShare d)
        ∗ semVal ((c : Thread nD τ), SemLoc.dma 7) 0 ∗ hbPt c hbM fh ∗ owes (c : Thread nD τ) 0 W
        ∗ (iprop(owns (c : Thread nD τ) arg2 fullShare X0 ∗ owns (c : Thread nD τ) arg4 fullShare X1
              ∗ (∃ d, owns (c : Thread nD τ) arg5 fullShare d) ∗ (∃ d, owns (c : Thread nD τ) arg6 fullShare d)
              ∗ (∃ d, owns (c : Thread nD τ) scM fullShare d)
              ∗ semVal ((c : Thread nD τ), SemLoc.dma 7) 0 ∗ hbPt c hbM fh ∗ ∃ W', owes (c : Thread nD τ) 0 W') -∗ K ⟨⟩))
      ⊢ wp frame (wpE (defs₀ (F := F)) Variants.none c none) Set.univ
          (cc0_wgrad i arg2 harg2 hbM (Memref.isWhole_whole _) arg4 harg4 arg5 harg5 arg6 harg6 scM (Memref.isWhole_whole _) cc0_scratch1) K := by
  iintro ⟨H2, H4, ⟨%d5, H5⟩, H6, ⟨%ds, HS⟩, Hq, Hh, HW, Hk⟩
  by_cases hk0 : (i 1).val = 0
  · by_cases hn : (i 0).val = 0
    · iapply (run_first c i hn hk0 arg2 harg2 arg4 harg4 arg5 harg5 arg6 harg6 X0 X1 fh W K)
      isplitl [H2]; · iexact H2
      isplitl [H4]; · iexact H4
      isplitl [H5]; · iexists d5; iexact H5
      isplitl [H6]; · iexact H6
      isplitl [HS]; · iexists ds; iexact HS
      isplitl [Hq]; · iexact Hq
      isplitl [Hh]; · iexact Hh
      isplitl [HW]; · iexact HW
      iintro ⟨H2, H4, H5, H6, HS, Hq, Hh, HW⟩
      iapply Hk
      isplitl [H2]; · iexact H2
      isplitl [H4]; · iexact H4
      isplitl [H5]; · iexists _; iexact H5
      isplitl [H6]; · iexists _; iexact H6
      isplitl [HS]; · iexists _; iexact HS
      isplitl [Hq]; · iexact Hq
      isplitl [Hh]; · iexact Hh
      iexact HW
    · iapply (run_open c i (fun h => hn h.1) hk0 arg2 harg2 arg4 harg4 arg5 harg5 arg6 harg6 X0 X1 ds K)
      isplitl [H2]; · iexact H2
      isplitl [H4]; · iexact H4
      isplitl [H5]; · iexists d5; iexact H5
      isplitl [H6]; · iexact H6
      isplitl [HS]; · iexact HS
      iintro ⟨H2, H4, H5, H6, HS⟩
      iapply Hk
      isplitl [H2]; · iexact H2
      isplitl [H4]; · iexact H4
      isplitl [H5]; · iexists _; iexact H5
      isplitl [H6]; · iexists _; iexact H6
      isplitl [HS]; · iexists _; iexact HS
      isplitl [Hq]; · iexact Hq
      isplitl [Hh]; · iexact Hh
      iexists W; iexact HW
  · by_cases hk31 : (i 1).val = 31
    · iapply (run_close c i (fun h => hk0 h.2) hk31 arg2 harg2 arg4 harg4 arg5 harg5 arg6 harg6 X0 X1 d5 ds K)
      isplitl [H2]; · iexact H2
      isplitl [H4]; · iexact H4
      isplitl [H5]; · iexact H5
      isplitl [H6]; · iexact H6
      isplitl [HS]; · iexact HS
      iintro ⟨H2, H4, H5, H6, HS⟩
      iapply Hk
      isplitl [H2]; · iexact H2
      isplitl [H4]; · iexact H4
      isplitl [H5]; · iexists _; iexact H5
      isplitl [H6]; · iexists _; iexact H6
      isplitl [HS]; · iexists _; iexact HS
      isplitl [Hq]; · iexact Hq
      isplitl [Hh]; · iexact Hh
      iexists W; iexact HW
    · iapply (run_mid c i (fun h => hk0 h.2) hk0 hk31 arg2 harg2 arg4 harg4 arg5 harg5 arg6 harg6 X0 X1 d5 ds K)
      isplitl [H2]; · iexact H2
      isplitl [H4]; · iexact H4
      isplitl [H5]; · iexact H5
      isplitl [H6]; · iexact H6
      isplitl [HS]; · iexact HS
      iintro ⟨H2, H4, H5, H6, HS⟩
      iapply Hk
      isplitl [H2]; · iexact H2
      isplitl [H4]; · iexact H4
      isplitl [H5]; · iexists _; iexact H5
      isplitl [H6]; · iexists _; iexact H6
      isplitl [HS]; · iexists _; iexact HS
      isplitl [Hq]; · iexact Hq
      isplitl [Hh]; · iexact Hh
      iexists W; iexact HW

/-- The proof data on core `c`: the arrays as the region finds them; the scalars and the `dy` block left in place; what the
    body leaves in the results' buffers unnamed; full shares; nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => win0_1.fill (grid0.coords t) (Pipeline.Dat.unnamed (cfg := cfg0) 1 t) (iblk m c 1 t)
    | ⟨2, _⟩ => Pipeline.Dat.unnamed (cfg := cfg0) 2 t
    | ⟨3, _⟩ => Pipeline.Dat.unnamed (cfg := cfg0) 3 t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]

/-- The body at point `t` takes what is held before the point to what is held after it. -/
theorem body_obligation (c : Dev nD) :
    BodyObligationLoose (dats (F := F) m 0 c) (defs₀ (F := F)) Variants.none () Set.univ forgets0 := fun t => by
  rw [bigSep_W0, bigSep_W0, defs₀_row]
  simp only [forgets0]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq]
  unfold Dat.owesAt Pipeline.owesWithin
  rw [show (dats m 0 c).owed t.castSucc = 0 from rfl]
  iintro ⟨⟨HS, Hg, Hq, Hh⟩, ⟨%W, %hW, HO⟩, ⟨%d0, H0⟩, ⟨%d1, H1⟩, H2, H3⟩
  rw [before0_0 m (dats m 0 c) rfl (fun _ => rfl) t d0, before0_1 m (dats m 0 c) rfl t d1]
  unfold bodyAt0
  iapply (run_any c (grid0.coords t) (win0_0.stage (cfg0.slots t 0)) _ (win0_1.stage (cfg0.slots t 1)) _
    (win0_2.stage (cfg0.slots t 2)) _ (win0_3.stage (cfg0.slots t 3)) _ (iblk m c 0 t)
    (win0_1.fill (grid0.coords t) d1 (iblk m c 1 t)) (V m c main_arg0) W _)
  isplitl [H0]; · iexact H0
  isplitl [H1]; · iexact H1
  isplitl [H2]; · iexact H2
  isplitl [H3]; · iexact H3
  isplitl [HS]; · iexact HS
  isplitl [Hq]; · iexact Hq
  isplitl [Hh]; · iexact Hh
  isplitl [HO]; · iexact HO
  iintro ⟨H0, H1, H2, H3, HS, Hq, Hh, ⟨%W', HO⟩⟩
  isplitl [HS Hg Hq Hh]
  · isplitl [HS]; · iexact HS
    isplitl [Hg]; · iexact Hg
    isplitl [Hq]; · iexact Hq
    iexact Hh
  isplitl [HO]
  · iexists W'; isplitr; · ipureintro; exact fun _ _ => Or.inl trivial
    iexact HO
  isplitl [H0]; · iexact H0
  isplitl [H1]
  · iexists d1
    change _ ⊢ owns (c : Thread nD τ) (win0_1.stage (cfg0.slots t 1)) fullShare (win0_1.fill (grid0.coords t) d1 (win0_1.cut (grid0.coords t)
      (win0_1.fill (grid0.coords t) (Pipeline.Dat.unnamed (cfg := cfg0) 1 t) (iblk m c 1 t))))
    rw [win0_1.cut_fill]; try iexact H1
  isplitl [H2]; · iexact H2
  iexact H3

set_option backward.isDefEq.respectTransparency.types false in
/-- Every fair execution of the program ends; the arguments no window stages hold what they held, and every counter is zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => body_obligation m c) (hshare := fun c => (dats m 0 c).share_full fun _ => rfl)
    (howed := fun _ _ => rfl) (V := V m) (hmain := hmainD m Variants.none) (hA := A_eq m)
    (hin := fun _ => .rfl) (hout := fun _ => .rfl)

/-- The frame and quiescence of the program at any float values. -/
theorem frame_any :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_main m ρ)

end Cert.Kernel.Hand

end
-- ==== Proof.IdealBody.lean ====
/-
  The body of the weight-gradient kernel at one grid point, run once for each of the four kinds of point it has: the very
  first one (the copy of the `x` codes into the scratch), the other points that open a block of columns, the points in the
  middle of a block, and the points that close one. Each theorem states exactly what the body leaves in its buffers.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.Transfers
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-- The scratch that holds the `x` codes, and the argument left in HBM that they are copied from, whole. -/
abbrev scM : Memref sig .tc .vmem S1664x32768 .fp8e4m3 := Memref.whole cc0_scratch0
abbrev hbM : Memref sig .tc .hbm S1664x32768 .fp8e4m3 := Memref.whole main_arg0
/-- A memref's buffer on core `c` held whole at `f`. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The two words of the scalar operand: the factor of the quantisation, and the factor of the result. -/
abbrev word0 (X : S2.Idx → Elt F .f32) : Elt F .f32 := X fun a => ⟨0, by fin_cases a; decide⟩
abbrev word1 (X : S2.Idx → Elt F .f32) : Elt F .f32 := X fun a => ⟨1, by fin_cases a; decide⟩
/-- The `x` codes that grid point `i` multiplies: the columns of its block of tokens. -/
abbrev codes (A : S1664x32768.Idx → Elt F .fp8e4m3) (i : grid0.Coords) : Vec F S1664x1024 .fp8e4m3 :=
  VecWindow.window A (k0_off1 i) S1664x1024.size (k0_off1_inb i)

/-- Reading a whole scalar operand at its first place, and at its second, gives the two words of its contents. -/
theorem readAt_word0 (v : View sig .tc .smem S2 .f32) (f : v.ty.Contents (Elt F)) (h) :
    View.readAt (Elt F) v (Rect.unit (s := S2) ![0] S1.size inb_S2_S1_0).toLoadRect f (Shape.Idx.first h) = word0 (v.read (Elt F) f) := by
  rw [View.readAt_apply]
  exact congrArg (v.read (Elt F) f) (funext fun a => by fin_cases a; rfl)
theorem readAt_word1 (v : View sig .tc .smem S2 .f32) (f : v.ty.Contents (Elt F)) (h) :
    View.readAt (Elt F) v (Rect.unit (s := S2) ![1] S1.size inb_S2_S1_1).toLoadRect f (Shape.Idx.first h) = word1 (v.read (Elt F) f) := by
  rw [View.readAt_apply]
  exact congrArg (v.read (Elt F) f) (funext fun a => by fin_cases a; rfl)

/-- A scratch written whole reads back as what was written. -/
theorem read_writes_codes (v : View sig .tc .vmem S1664x32768 .fp8e4m3) (f : v.ty.Contents (Elt F)) (w : S1664x32768.Idx → Elt F .fp8e4m3) :
    v.read (Elt F) (v.writes (Elt F) f [⟨Rect.whole S1664x32768, w⟩]) = w :=
  View.read_writes_full v f (fun a => by simp) w []

/-- The payloads of equal operands are equal. -/
theorem pay1_congr {a a' : Vec F S1664x256 .f32} {b b' : Elt F .f32} (ha : a = a') (hb : b = b') : k0_pay1 a b = k0_pay1 a' b' := by
  subst ha hb; rfl
theorem pay2_congr {a a' : Vec F S1024x256 .bf16} {b b' : Elt F .f32} (ha : a = a') (hb : b = b') : k0_pay2 a b = k0_pay2 a' b' := by
  subst ha hb; rfl
theorem pay4_congr {a a' : Vec F S1024x256 .bf16} {b b' : Elt F .f32} {r r' : Vec F S1664x256 .f32} {s s' : Vec F S1664x1024 .fp8e4m3}
    (ha : a = a') (hb : b = b') (hr : r = r') (hs : s = s') : k0_pay4 a b r s = k0_pay4 a' b' r' s' := by
  subst ha hb hr hs; rfl

/-- An equality test of two small words that differ is not taken. -/
theorem guard_false (a b : ℕ) (ha : a < 32) (hb : b < 32) (hab : a ≠ b) :
    ¬ (Scalar.cmpi .ne (Scalar.extui (Scalar.cmpi .eq (BitVec.ofNat 32 a) (BitVec.ofNat 32 b)) : BitVec 32) 0#32 = 1#1) := by
  have key : ∀ a b : Fin 32, a.val ≠ b.val →
      ¬ (Scalar.cmpi .ne (Scalar.extui (Scalar.cmpi .eq (BitVec.ofNat 32 a.val) (BitVec.ofNat 32 b.val)) : BitVec 32) 0#32 = 1#1) := by
    decide +kernel
  exact key ⟨a, ha⟩ ⟨b, hb⟩ hab

/-- The test for the very first point is not taken anywhere else. -/
theorem guard1_false (i : grid0.Coords) (hf : ¬ ((i 0).val = 0 ∧ (i 1).val = 0)) :
    ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) := by
  have h0 : (i 0).val < 77 := (i 0).isLt
  have h1 : (i 1).val < 32 := (i 1).isLt
  have key : ∀ a : Fin 77, ∀ b : Fin 32, ¬ (a.val = 0 ∧ b.val = 0) →
      ¬ (Scalar.cmpi .ne (Scalar.extui (Scalar.andi (Scalar.cmpi .eq (BitVec.ofNat 32 a.val) 0#32) (Scalar.cmpi .eq (BitVec.ofNat 32 b.val) 0#32)) : BitVec 32) 0#32 = 1#1) := by
    decide +kernel
  exact key ⟨_, h0⟩ ⟨_, h1⟩ hf

/-- At the first grid point the body copies the codes into the scratch and leaves the first block product in the result buffer. -/
theorem run_first (c : Dev nD) (i : grid0.Coords) (hn : (i 0).val = 0) (hk : (i 1).val = 0)
    (arg2 : Memref sig .tc .smem S2 .f32) (harg2 : arg2.IsWhole)
    (arg4 : Memref sig .tc .vmem S1024x256 .bf16) (harg4 : arg4.IsWhole)
    (arg5 : Memref sig .tc .vmem S1664x256 .f32) (harg5 : arg5.IsWhole)
    (arg6 : Memref sig .tc .vmem S256x1024 .fp8e5m2) (harg6 : arg6.IsWhole)
    (X0 : S2.Idx → Elt F .f32) (X1 : S1024x256.Idx → Elt F .bf16)
    (fh : Buf (Elt F) (hbM.view.loc (c : Thread nD τ))) (W : Waits sig Unit) (K : PUnit → sProp 𝕄) :
    iprop(owns (c : Thread nD τ) arg2 fullShare X0 ∗ owns (c : Thread nD τ) arg4 fullShare X1
        ∗ (∃ d, owns (c : Thread nD τ) arg5 fullShare d) ∗ (∃ d, owns (c : Thread nD τ) arg6 fullShare d)
        ∗ (∃ d, owns (c : Thread nD τ) scM fullShare d)
        ∗ semVal ((c : Thread nD τ), SemLoc.dma 7) 0 ∗ hbPt c hbM fh ∗ owes (c : Thread nD τ) 0 W
        ∗ (iprop(owns (c : Thread nD τ) arg2 fullShare X0 ∗ owns (c : Thread nD τ) arg4 fullShare X1
              ∗ owns (c : Thread nD τ) arg5 fullShare (k0_pay4 X1 (word0 X0) (k0_pay3 (F := F)) (codes (hbM.view.read (Elt F) fh) i))
              ∗ owns (c : Thread nD τ) arg6 fullShare (k0_pay2 X1 (word0 X0))
              ∗ owns (c : Thread nD τ) scM fullShare (hbM.view.read (Elt F) fh)
              ∗ semVal ((c : Thread nD τ), SemLoc.dma 7) 0 ∗ hbPt c hbM fh ∗ ∃ W', owes (c : Thread nD τ) 0 W') -∗ K ⟨⟩))
      ⊢ wp frame (wpE (defs₀ (F := F)) Variants.none c none) Set.univ
          (cc0_wgrad i arg2 harg2 hbM (Memref.isWhole_whole _) arg4 harg4 arg5 harg5 arg6 harg6 scM (Memref.isWhole_whole _) cc0_scratch1) K := by
  have h1 : (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) := by rw [hn, hk]; decide
  have h2 : (Scalar.cmpi .ne (Scalar.extui (Scalar.cmpi .eq (BitVec.ofNat 32 (i 1).val) 0#32) : BitVec 32) 0#32 = 1#1) := by rw [hk]; decide
  have h3 : ¬ (Scalar.cmpi .ne (Scalar.extui (Scalar.cmpi .eq (BitVec.ofNat 32 (i 1).val) 31#32) : BitVec 32) 0#32 = 1#1) := by rw [hk]; decide
  simp only [cc0_wgrad_eq_skeleton]; unfold cc0_wgrad_skel
  simp only [k0_part1_eq_skeleton]; unfold k0_part1_skel
  unfold owns
  iintro ⟨⟨%f2, %hf2, H2⟩, ⟨%f4, %hf4, H4⟩, ⟨%d5, %f5, -, H5⟩, ⟨%d6, %f6, -, H6⟩, ⟨%ds, %fs, -, HS⟩, Hq, Hh, HW, Hk⟩
  sl_exec (disch := first | exact h1 | exact h2 | exact h3)
  sl_step
  iapply Hk
  isplitl [H2]
  · iexists _; isplitr; swap; · iexact H2
    ipureintro; exact hf2
  isplitl [H4]
  · iexists _; isplitr; swap; · iexact H4
    ipureintro; exact hf4
  isplitl [H5]
  · iexists _; isplitr; swap; · iexact H5
    ipureintro
    exact (View.read_writes_full _ _ inb_S1664x256_S1664x256_0_0 _ _).trans (pay4_congr ((View.readAt_full _ _ _).trans hf4) ((readAt_word0 _ _ _).trans (congrArg word0 hf2)) (View.readCov_full _ _ _ _ _) ((View.readAt_unit scM.view _ _ rfl (k0_off1_inb i)).trans (congrArg (codes · i) (read_writes_codes _ _ _))))
  isplitl [H6]
  · iexists _; isplitr; swap; · iexact H6
    ipureintro
    exact (View.read_writes_full _ _ _ _ _).trans (pay2_congr ((View.readAt_full _ _ _).trans hf4) ((readAt_word0 _ _ _).trans (congrArg word0 hf2)))
  isplitl [HS]
  · iexists _; isplitr; swap; · iexact HS
    ipureintro
    exact read_writes_codes _ _ _
  isplitl [Hq]; · iexact Hq
  isplitl [Hh]; · iexact Hh
  iexists _; iexact HW

/-- At the first token block of a later column block the body clears the accumulator and leaves the block product in it. -/
theorem run_open (c : Dev nD) (i : grid0.Coords) (hf : ¬ ((i 0).val = 0 ∧ (i 1).val = 0)) (hk : (i 1).val = 0)
    (arg2 : Memref sig .tc .smem S2 .f32) (harg2 : arg2.IsWhole)
    (arg4 : Memref sig .tc .vmem S1024x256 .bf16) (harg4 : arg4.IsWhole)
    (arg5 : Memref sig .tc .vmem S1664x256 .f32) (harg5 : arg5.IsWhole)
    (arg6 : Memref sig .tc .vmem S256x1024 .fp8e5m2) (harg6 : arg6.IsWhole)
    (X0 : S2.Idx → Elt F .f32) (X1 : S1024x256.Idx → Elt F .bf16) (A : S1664x32768.Idx → Elt F .fp8e4m3) (K : PUnit → sProp 𝕄) :
    iprop(owns (c : Thread nD τ) arg2 fullShare X0 ∗ owns (c : Thread nD τ) arg4 fullShare X1
        ∗ (∃ d, owns (c : Thread nD τ) arg5 fullShare d) ∗ (∃ d, owns (c : Thread nD τ) arg6 fullShare d)
        ∗ owns (c : Thread nD τ) scM fullShare A
        ∗ (iprop(owns (c : Thread nD τ) arg2 fullShare X0 ∗ owns (c : Thread nD τ) arg4 fullShare X1
              ∗ owns (c : Thread nD τ) arg5 fullShare (k0_pay4 X1 (word0 X0) (k0_pay3 (F := F)) (codes A i))
              ∗ owns (c : Thread nD τ) arg6 fullShare (k0_pay2 X1 (word0 X0))
              ∗ owns (c : Thread nD τ) scM fullShare A) -∗ K ⟨⟩))
      ⊢ wp frame (wpE (defs₀ (F := F)) Variants.none c none) Set.univ
          (cc0_wgrad i arg2 harg2 hbM (Memref.isWhole_whole _) arg4 harg4 arg5 harg5 arg6 harg6 scM (Memref.isWhole_whole _) cc0_scratch1) K := by
  have h1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) := guard1_false i hf
  have h2 : (Scalar.cmpi .ne (Scalar.extui (Scalar.cmpi .eq (BitVec.ofNat 32 (i 1).val) 0#32) : BitVec 32) 0#32 = 1#1) := by rw [hk]; decide
  have h3 : ¬ (Scalar.cmpi .ne (Scalar.extui (Scalar.cmpi .eq (BitVec.ofNat 32 (i 1).val) 31#32) : BitVec 32) 0#32 = 1#1) := by rw [hk]; decide
  simp only [cc0_wgrad_eq_skeleton]; unfold cc0_wgrad_skel
  simp only [k0_part1_eq_skeleton]; unfold k0_part1_skel
  unfold owns
  iintro ⟨⟨%f2, %hf2, H2⟩, ⟨%f4, %hf4, H4⟩, ⟨%d5, %f5, -, H5⟩, ⟨%d6, %f6, -, H6⟩, ⟨%fs, %hfs, HS⟩, Hk⟩
  sl_exec (disch := first | exact h1 | exact h2 | exact h3)
  sl_step
  iapply Hk
  isplitl [H2]
  · iexists _; isplitr; swap; · iexact H2
    ipureintro; exact hf2
  isplitl [H4]
  · iexists _; isplitr; swap; · iexact H4
    ipureintro; exact hf4
  isplitl [H5]
  · iexists _; isplitr; swap; · iexact H5
    ipureintro
    exact (View.read_writes_full _ _ inb_S1664x256_S1664x256_0_0 _ _).trans (pay4_congr ((View.readAt_full _ _ _).trans hf4) ((readAt_word0 _ _ _).trans (congrArg word0 hf2)) (View.readCov_full _ _ _ _ _) ((View.readAt_unit scM.view _ _ rfl (k0_off1_inb i)).trans (congrArg (codes · i) hfs)))
  isplitl [H6]
  · iexists _; isplitr; swap; · iexact H6
    ipureintro
    exact (View.read_writes_full _ _ _ _ _).trans (pay2_congr ((View.readAt_full _ _ _).trans hf4) ((readAt_word0 _ _ _).trans (congrArg word0 hf2)))
  iexists _; isplitr; swap; · iexact HS
  ipureintro; exact hfs

/-- At a middle token block the body adds the block product to the accumulator. -/
theorem run_mid (c : Dev nD) (i : grid0.Coords) (hf : ¬ ((i 0).val = 0 ∧ (i 1).val = 0)) (hk0 : (i 1).val ≠ 0) (hk31 : (i 1).val ≠ 31)
    (arg2 : Memref sig .tc .smem S2 .f32) (harg2 : arg2.IsWhole)
    (arg4 : Memref sig .tc .vmem S1024x256 .bf16) (harg4 : arg4.IsWhole)
    (arg5 : Memref sig .tc .vmem S1664x256 .f32) (harg5 : arg5.IsWhole)
    (arg6 : Memref sig .tc .vmem S256x1024 .fp8e5m2) (harg6 : arg6.IsWhole)
    (X0 : S2.Idx → Elt F .f32) (X1 : S1024x256.Idx → Elt F .bf16) (X2 : S1664x256.Idx → Elt F .f32) (A : S1664x32768.Idx → Elt F .fp8e4m3) (K : PUnit → sProp 𝕄) :
    iprop(owns (c : Thread nD τ) arg2 fullShare X0 ∗ owns (c : Thread nD τ) arg4 fullShare X1
        ∗ owns (c : Thread nD τ) arg5 fullShare X2 ∗ (∃ d, owns (c : Thread nD τ) arg6 fullShare d)
        ∗ owns (c : Thread nD τ) scM fullShare A
        ∗ (iprop(owns (c : Thread nD τ) arg2 fullShare X0 ∗ owns (c : Thread nD τ) arg4 fullShare X1
              ∗ owns (c : Thread nD τ) arg5 fullShare (k0_pay4 X1 (word0 X0) X2 (codes A i))
              ∗ owns (c : Thread nD τ) arg6 fullShare (k0_pay2 X1 (word0 X0))
              ∗ owns (c : Thread nD τ) scM fullShare A) -∗ K ⟨⟩))
      ⊢ wp frame (wpE (defs₀ (F := F)) Variants.none c none) Set.univ
          (cc0_wgrad i arg2 harg2 hbM (Memref.isWhole_whole _) arg4 harg4 arg5 harg5 arg6 harg6 scM (Memref.isWhole_whole _) cc0_scratch1) K := by
  have h1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) := guard1_false i hf
  have h2 : ¬ (Scalar.cmpi .ne (Scalar.extui (Scalar.cmpi .eq (BitVec.ofNat 32 (i 1).val) 0#32) : BitVec 32) 0#32 = 1#1) := guard_false (i 1).val 0 (by have := (i 1).isLt; show _ < 32; exact this) (by decide) hk0
  have h3 : ¬ (Scalar.cmpi .ne (Scalar.extui (Scalar.cmpi .eq (BitVec.ofNat 32 (i 1).val) 31#32) : BitVec 32) 0#32 = 1#1) := guard_false (i 1).val 31 (by have := (i 1).isLt; show _ < 32; exact this) (by decide) hk31
  simp only [cc0_wgrad_eq_skeleton]; unfold cc0_wgrad_skel
  simp only [k0_part1_eq_skeleton]; unfold k0_part1_skel
  unfold owns
  iintro ⟨⟨%f2, %hf2, H2⟩, ⟨%f4, %hf4, H4⟩, ⟨%f5, %hf5, H5⟩, ⟨%d6, %f6, -, H6⟩, ⟨%fs, %hfs, HS⟩, Hk⟩
  sl_exec (disch := first | exact h1 | exact h2 | exact h3)
  sl_step
  iapply Hk
  isplitl [H2]
  · iexists _; isplitr; swap; · iexact H2
    ipureintro; exact hf2
  isplitl [H4]
  · iexists _; isplitr; swap; · iexact H4
    ipureintro; exact hf4
  isplitl [H5]
  · iexists _; isplitr; swap; · iexact H5
    ipureintro
    exact (View.read_writes_full _ _ inb_S1664x256_S1664x256_0_0 _ _).trans (pay4_congr ((View.readAt_full _ _ _).trans hf4) ((readAt_word0 _ _ _).trans (congrArg word0 hf2)) ((View.readAt_full _ _ _).trans hf5) ((View.readAt_unit scM.view _ _ rfl (k0_off1_inb i)).trans (congrArg (codes · i) hfs)))
  isplitl [H6]
  · iexists _; isplitr; swap; · iexact H6
    ipureintro
    exact (View.read_writes_full _ _ _ _ _).trans (pay2_congr ((View.readAt_full _ _ _).trans hf4) ((readAt_word0 _ _ _).trans (congrArg word0 hf2)))
  iexists _; isplitr; swap; · iexact HS
  ipureintro; exact hfs

/-- At the last token block the body adds the block product and multiplies by the result factor. -/
theorem run_close (c : Dev nD) (i : grid0.Coords) (hf : ¬ ((i 0).val = 0 ∧ (i 1).val = 0)) (hk : (i 1).val = 31)
    (arg2 : Memref sig .tc .smem S2 .f32) (harg2 : arg2.IsWhole)
    (arg4 : Memref sig .tc .vmem S1024x256 .bf16) (harg4 : arg4.IsWhole)
    (arg5 : Memref sig .tc .vmem S1664x256 .f32) (harg5 : arg5.IsWhole)
    (arg6 : Memref sig .tc .vmem S256x1024 .fp8e5m2) (harg6 : arg6.IsWhole)
    (X0 : S2.Idx → Elt F .f32) (X1 : S1024x256.Idx → Elt F .bf16) (X2 : S1664x256.Idx → Elt F .f32) (A : S1664x32768.Idx → Elt F .fp8e4m3) (K : PUnit → sProp 𝕄) :
    iprop(owns (c : Thread nD τ) arg2 fullShare X0 ∗ owns (c : Thread nD τ) arg4 fullShare X1
        ∗ owns (c : Thread nD τ) arg5 fullShare X2 ∗ (∃ d, owns (c : Thread nD τ) arg6 fullShare d)
        ∗ owns (c : Thread nD τ) scM fullShare A
        ∗ (iprop(owns (c : Thread nD τ) arg2 fullShare X0 ∗ owns (c : Thread nD τ) arg4 fullShare X1
              ∗ owns (c : Thread nD τ) arg5 fullShare (k0_pay1 (k0_pay4 X1 (word0 X0) X2 (codes A i)) (word1 X0))
              ∗ owns (c : Thread nD τ) arg6 fullShare (k0_pay2 X1 (word0 X0))
              ∗ owns (c : Thread nD τ) scM fullShare A) -∗ K ⟨⟩))
      ⊢ wp frame (wpE (defs₀ (F := F)) Variants.none c none) Set.univ
          (cc0_wgrad i arg2 harg2 hbM (Memref.isWhole_whole _) arg4 harg4 arg5 harg5 arg6 harg6 scM (Memref.isWhole_whole _) cc0_scratch1) K := by
  have h1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) := guard1_false i hf
  have h2 : ¬ (Scalar.cmpi .ne (Scalar.extui (Scalar.cmpi .eq (BitVec.ofNat 32 (i 1).val) 0#32) : BitVec 32) 0#32 = 1#1) := by rw [hk]; decide
  have h3 : (Scalar.cmpi .ne (Scalar.extui (Scalar.cmpi .eq (BitVec.ofNat 32 (i 1).val) 31#32) : BitVec 32) 0#32 = 1#1) := by rw [hk]; decide
  simp only [cc0_wgrad_eq_skeleton]; unfold cc0_wgrad_skel
  simp only [k0_part1_eq_skeleton]; unfold k0_part1_skel
  unfold owns
  iintro ⟨⟨%f2, %hf2, H2⟩, ⟨%f4, %hf4, H4⟩, ⟨%f5, %hf5, H5⟩, ⟨%d6, %f6, -, H6⟩, ⟨%fs, %hfs, HS⟩, Hk⟩
  sl_exec (disch := first | exact h1 | exact h2 | exact h3)
  sl_step
  iapply Hk
  isplitl [H2]
  · iexists _; isplitr; swap; · iexact H2
    ipureintro; exact hf2
  isplitl [H4]
  · iexists _; isplitr; swap; · iexact H4
    ipureintro; exact hf4
  isplitl [H5]
  · iexists _; isplitr; swap; · iexact H5
    ipureintro
    exact (View.read_writes_full _ _ inb_S1664x256_S1664x256_0_0 _ _).trans (pay1_congr ((View.readCov_full _ _ _ _ _).trans (pay4_congr ((View.readAt_full _ _ _).trans hf4) ((readAt_word0 _ _ _).trans (congrArg word0 hf2)) ((View.readAt_full _ _ _).trans hf5) ((View.readAt_unit scM.view _ _ rfl (k0_off1_inb i)).trans (congrArg (codes · i) hfs)))) ((readAt_word1 _ _ _).trans (congrArg word1 hf2)))
  isplitl [H6]
  · iexists _; isplitr; swap; · iexact H6
    ipureintro
    exact (View.read_writes_full _ _ _ _ _).trans (pay2_congr ((View.readAt_full _ _ _).trans hf4) ((readAt_word0 _ _ _).trans (congrArg word0 hf2)))
  iexists _; isplitr; swap; · iexact HS
  ipureintro; exact hfs

end Cert.KernelIdeal.Hand

end
-- ==== Proof.IdealLaunch.lean ====
/-
  What the launch of the weight-gradient kernel needs whatever is claimed of it: its own transfer's counter, the argument left
  in HBM, what is held between two grid points, the coordinates of a grid point, and the program up to the kernel.
-/
module

public import proofs.«01_k».proof.Proof.IdealBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The one counter the kernel's own transfer uses. -/
abbrev osem0 : Fin 1 → SemLoc sig := fun j => (![SemLoc.dma 7] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0) := by
  rw [Pipeline.ownSems0_eq_of_list c osem0 [0] (by decide) (by decide)]; rfl
/-- The `x` codes, left in HBM: no window stages them. -/
def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt c hbM (V m c main_arg0)) := by
  rw [BI.bigSep_eq_bigSepL_of_eq [main_arg0] (by decide) (by decide)]; rfl

/-- What the launch hands over beside the windows: the scratch at some contents, the generator register, the counter at zero,
    the `x` codes as they were. -/
theorem PhiD0_eq (c : Dev nD) :
    (Pipeline.ΦD osem0 spec0 H0 (V m) c : sProp 𝕄)
      = iprop(iprop((∃ d, owns (c : Thread nD τ) scM fullShare d)) ∗ (∃ r, prngReg c r)
          ∗ iprop(semVal ((c : Thread nD τ), SemLoc.dma 7) 0) ∗ iprop(hbPt c hbM (V m c main_arg0))) := by
  rw [Pipeline.ΦD_eq, scopedRest0_eq, ownSems00_eq, hbmPts0_eq]; simp only [scM, owns_whole]; try rfl

/-- Grid point `t` is column block `t / 32` and token block `t % 32`. -/
theorem coords0 (t : Fin cfg0.N) : (grid0.coords t 0).val = t.val / 32 := by
  have ht : t.val < 2464 := lt_of_lt_of_eq t.isLt N_0
  have h := Pipeline.Grid.coords_val (G := grid0) t 0 (S := 32) (B := 77) (by decide) rfl
  rw [h]; exact Nat.mod_eq_of_lt (by omega)
theorem coords1 (t : Fin cfg0.N) : (grid0.coords t 1).val = t.val % 32 := by
  have h := Pipeline.Grid.coords_val (G := grid0) t 1 (S := 1) (B := 32) (by decide) rfl
  rw [h, Nat.div_one]

/-- Window 0 is uncut and its block never moves: its buffer holds its block at every point. -/
theorem before0_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 is fetched at every point: its buffer holds its block, and anything past the array's last column. -/
theorem before0_1 {c : Dev nD} (dat : Dat τ (Elt F) Unit ℕ (Pipeline.UD sig nD τ) ℕ cfg0 c) (hA : dat.A 1 = V m c (Pipeline.arrRef spec0 1))
    (t : Fin cfg0.N) (d) : dat.before 1 t d = win0_1.fill (grid0.coords t) d (iblk m c 1 t) := by
  unfold Dat.before; rw [if_pos (fetch0_1 t)]; unfold Dat.fetched Dat.blockOf iblk; rw [hA]; try rfl

/-- The body table's row at the point is the body there. -/
theorem defs₀_row (t : Fin cfg0.N) : defs₀ (F := F) .tc cfg0.body (cfg0.bodyArgs t (cfg0.slots t)) = bodyAt0 t := by
  unfold defs₀; rw [Defs.onTc_tc]

set_option maxHeartbeats 800000 in
/-- The program up to the kernel: the host operations, then the region. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

end Cert.KernelIdeal.Hand

end
-- ==== Proof.IdealBlocks.lean ====
/-
  The blocks of the weight-gradient kernel over the reals: which entries of a block lie inside its array, which entry of the
  array each of them is, and what the kernel's arithmetic gives at one entry.
-/
module

public import proofs.«01_k».proof.Proof.IdealLaunch
public import Idealize.ShloMosaic.Lib.Pipeline.Value
public import Idealize.ShloMosaic.Lib.Pointwise.Tactic
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat BodyObligation BodyObligationLoose Clip Window)

/-! ## The arithmetic at one entry -/

/-- Clipping to the largest finite `f8e5m2` number, 57344, on either side. -/
def clip (v : EReal) : EReal := min (Ideal.ofBits .f32 0x47600000#32) (max (Ideal.ofBits .f32 0xC7600000#32) v)

theorem pay1_apply (X : Vec Ideal S1664x256 .f32) (w : EReal) (j : S1664x256.Idx) : k0_pay1 X w j = X j * w := by
  unfold k0_pay1; pointwise
theorem pay2_apply (X : Vec Ideal S1024x256 .bf16) (w : EReal) (j : S256x1024.Idx) :
    k0_pay2 X w j = clip (X (ix2 (j 1) (j 0)) * w) := by
  unfold k0_pay2 clip; pointwise
theorem pay3_apply (j : S1664x256.Idx) : k0_pay3 (F := Ideal) j = 0 := by
  unfold k0_pay3; pointwise
theorem pay4_apply (X : Vec Ideal S1024x256 .bf16) (w : EReal) (Y : Vec Ideal S1664x256 .f32) (S : Vec Ideal S1664x1024 .fp8e4m3)
    (j : S1664x256.Idx) : k0_pay4 X w Y S j = Y j + ∑ x : Fin 1024, S (ix2 (j 0) x) * clip (X (ix2 x (j 1)) * w) := by
  have h : k0_pay4 X w Y S j = Y j + ∑ x : Fin 1024, S (ix2 (j 0) x) * k0_pay2 X w (ix2 (j 1) x) := by
    unfold k0_pay4; pointwise
  rw [h]
  refine congrArg _ (Finset.sum_congr rfl fun x _ => ?_)
  rw [pay2_apply]; rfl

/-! ## Arrays at natural coordinates -/

/-- The entry of an array at two natural coordinates, zero past its end. -/
def at2 {a b : ℕ} (f : (⟨2, ![a, b]⟩ : Shape).Idx → EReal) (p q : ℕ) : EReal :=
  if h : p < a ∧ q < b then f (ix2 ⟨p, h.1⟩ ⟨q, h.2⟩) else 0

theorem at2_eq {a b : ℕ} (f : (⟨2, ![a, b]⟩ : Shape).Idx → EReal) (j : (⟨2, ![a, b]⟩ : Shape).Idx) {p q : ℕ}
    (hp : (j 0).val = p) (hq : (j 1).val = q) : at2 f p q = f j := by
  subst hp hq
  unfold at2
  rw [dif_pos (c := (j 0).val < a ∧ (j 1).val < b) ⟨(j 0).isLt, (j 1).isLt⟩]
  exact congrArg f (eq_ix2 j).symm

/-! ## The blocks -/

/-- A coordinate of a block is moved iff the array's coordinate it stands for is inside the array. -/
theorem lt_extent {ix k d j : ℕ} (hj : j < k) : j < (Clip.of ix k d).extent k ↔ ix * k + j < d := by
  unfold Clip.of
  have e : (ix + 1) * k = ix * k + k := Nat.succ_mul ix k
  split
  · exact ⟨fun _ => by omega, fun _ => hj⟩
  · show j < d - ix * k ↔ _; omega

variable (t : Fin cfg0.N)

theorem idx1_0 : cc0_transform_2 (grid0.coords t) 0 = t.val % 32 := by
  have ht : t.val < 2464 := lt_of_lt_of_eq t.isLt N_0
  show (BitVec.ofNat 32 (grid0.coords t 1).val).toNat = _
  rw [coords1, BitVec.toNat_ofNat]
  exact Nat.mod_eq_of_lt (by omega)
theorem idx1_1 : cc0_transform_2 (grid0.coords t) 1 = t.val / 32 := by
  have ht : t.val < 2464 := lt_of_lt_of_eq t.isLt N_0
  show (BitVec.ofNat 32 (grid0.coords t 0).val).toNat = _
  rw [coords0, BitVec.toNat_ofNat]
  exact Nat.mod_eq_of_lt (by omega)
theorem idx2_0 : cc0_transform_3 (grid0.coords t) 0 = 0 := rfl
theorem idx2_1 : cc0_transform_3 (grid0.coords t) 1 = t.val / 32 := by
  have ht : t.val < 2464 := lt_of_lt_of_eq t.isLt N_0
  show (BitVec.ofNat 32 (grid0.coords t 0).val).toNat = _
  rw [coords0, BitVec.toNat_ofNat]
  exact Nat.mod_eq_of_lt (by omega)
theorem idx3_0 : cc0_transform_4 (grid0.coords t) 0 = t.val / 32 := by
  have ht : t.val < 2464 := lt_of_lt_of_eq t.isLt N_0
  show (BitVec.ofNat 32 (grid0.coords t 0).val).toNat = _
  rw [coords0, BitVec.toNat_ofNat]
  exact Nat.mod_eq_of_lt (by omega)
theorem idx3_1 : cc0_transform_4 (grid0.coords t) 1 = t.val % 32 := by
  have ht : t.val < 2464 := lt_of_lt_of_eq t.isLt N_0
  show (BitVec.ofNat 32 (grid0.coords t 1).val).toNat = _
  rw [coords1, BitVec.toNat_ofNat]
  exact Nat.mod_eq_of_lt (by omega)

/-- An entry of a `dy` block lies inside the array iff its column does. -/
theorem moved1 (j : S1024x256.Idx) : win0_1.moved (grid0.coords t) j = true ↔ 256 * (t.val / 32) + (j 1).val < 19584 := by
  rw [win0_1.moved_iff]
  have h0 : (j 0).val < 1024 := (j 0).isLt
  have h1 : (j 1).val < 256 := (j 1).isLt
  have e0 : (j 0).val < win0_1.xsize (grid0.coords t) 0 ↔ cc0_transform_2 (grid0.coords t) 0 * 1024 + (j 0).val < 32768 := lt_extent h0
  have e1 : (j 1).val < win0_1.xsize (grid0.coords t) 1 ↔ cc0_transform_2 (grid0.coords t) 1 * 256 + (j 1).val < 19584 := lt_extent h1
  rw [idx1_0] at e0
  rw [idx1_1] at e1
  constructor
  · intro h; have := e1.1 (h 1); omega
  · intro h a
    match a with
    | ⟨0, _⟩ => exact e0.2 (by omega)
    | ⟨1, _⟩ => exact e1.2 (by omega)

/-- The same of a block of the product, -/
theorem moved2 (j : S1664x256.Idx) : win0_2.moved (grid0.coords t) j = true ↔ 256 * (t.val / 32) + (j 1).val < 19584 := by
  rw [win0_2.moved_iff]
  have h0 : (j 0).val < 1664 := (j 0).isLt
  have h1 : (j 1).val < 256 := (j 1).isLt
  have e0 : (j 0).val < win0_2.xsize (grid0.coords t) 0 ↔ cc0_transform_3 (grid0.coords t) 0 * 1664 + (j 0).val < 1664 := lt_extent (ix := cc0_transform_3 (grid0.coords t) 0) (k := 1664) (d := 1664) h0
  have e1 : (j 1).val < win0_2.xsize (grid0.coords t) 1 ↔ cc0_transform_3 (grid0.coords t) 1 * 256 + (j 1).val < 19584 := lt_extent h1
  rw [idx2_0] at e0
  rw [idx2_1] at e1
  constructor
  · intro h; have := e1.1 (h 1); omega
  · intro h a
    match a with
    | ⟨0, _⟩ => exact e0.2 (by omega)
    | ⟨1, _⟩ => exact e1.2 (by omega)

/-- and of a block of the transposed codes, by its row. -/
theorem moved3 (j : S256x1024.Idx) : win0_3.moved (grid0.coords t) j = true ↔ 256 * (t.val / 32) + (j 0).val < 19584 := by
  rw [win0_3.moved_iff]
  have h0 : (j 0).val < 256 := (j 0).isLt
  have h1 : (j 1).val < 1024 := (j 1).isLt
  have e0 : (j 0).val < win0_3.xsize (grid0.coords t) 0 ↔ cc0_transform_4 (grid0.coords t) 0 * 256 + (j 0).val < 19584 := lt_extent h0
  have e1 : (j 1).val < win0_3.xsize (grid0.coords t) 1 ↔ cc0_transform_4 (grid0.coords t) 1 * 1024 + (j 1).val < 32768 := lt_extent h1
  rw [idx3_0] at e0
  rw [idx3_1] at e1
  constructor
  · intro h; have := e0.1 (h 0); omega
  · intro h a
    match a with
    | ⟨0, _⟩ => exact e0.2 (by omega)
    | ⟨1, _⟩ => exact e1.2 (by omega)

/-- The array's coordinates of an entry of each block. -/
theorem emb1 (y : (win0_1.xblock (grid0.coords t)).Idx) :
    ((win0_1.rect t).emb y 0 : ℕ) = 1024 * (t.val % 32) + (y 0).val ∧ ((win0_1.rect t).emb y 1 : ℕ) = 256 * (t.val / 32) + (y 1).val := by
  have e0 : ((win0_1.rect t).emb y 0 : ℕ) = cc0_transform_2 (grid0.coords t) 0 * 1024 + (y 0).val := win0_1.rect_emb_val t y 0
  have e1 : ((win0_1.rect t).emb y 1 : ℕ) = cc0_transform_2 (grid0.coords t) 1 * 256 + (y 1).val := win0_1.rect_emb_val t y 1
  rw [idx1_0] at e0
  rw [idx1_1] at e1
  exact ⟨by omega, by omega⟩
theorem emb2 (y : (win0_2.xblock (grid0.coords t)).Idx) :
    ((win0_2.rect t).emb y 0 : ℕ) = (y 0).val ∧ ((win0_2.rect t).emb y 1 : ℕ) = 256 * (t.val / 32) + (y 1).val := by
  have e0 : ((win0_2.rect t).emb y 0 : ℕ) = cc0_transform_3 (grid0.coords t) 0 * 1664 + (y 0).val := win0_2.rect_emb_val t y 0
  have e1 : ((win0_2.rect t).emb y 1 : ℕ) = cc0_transform_3 (grid0.coords t) 1 * 256 + (y 1).val := win0_2.rect_emb_val t y 1
  rw [idx2_0] at e0
  rw [idx2_1] at e1
  exact ⟨by omega, by omega⟩
theorem emb3 (y : (win0_3.xblock (grid0.coords t)).Idx) :
    ((win0_3.rect t).emb y 0 : ℕ) = 256 * (t.val / 32) + (y 0).val ∧ ((win0_3.rect t).emb y 1 : ℕ) = 1024 * (t.val % 32) + (y 1).val := by
  have e0 : ((win0_3.rect t).emb y 0 : ℕ) = cc0_transform_4 (grid0.coords t) 0 * 256 + (y 0).val := win0_3.rect_emb_val t y 0
  have e1 : ((win0_3.rect t).emb y 1 : ℕ) = cc0_transform_4 (grid0.coords t) 1 * 1024 + (y 1).val := win0_3.rect_emb_val t y 1
  rw [idx3_0] at e0
  rw [idx3_1] at e1
  exact ⟨by omega, by omega⟩

/-- The columns of the codes that point `t` multiplies begin at `1024·(t mod 32)`. -/
theorem off1_0 : k0_off1 (grid0.coords t) 0 = 0 := rfl
theorem off1_1 : k0_off1 (grid0.coords t) 1 = 1024 * (t.val % 32) := by
  show (BitVec.ofNat 32 (grid0.coords t 1).val * 1024#32).toNat = _
  rw [coords1, BitVec.toNat_mul, BitVec.toNat_ofNat, BitVec.toNat_ofNat]
  omega

/-- The entry of the window of codes. -/
theorem codes_apply (A : S1664x32768.Idx → EReal) (p : Fin 1664) (x : Fin 1024) :
    codes (F := Ideal) A (grid0.coords t) (ix2 p x) = at2 A p.val (1024 * (t.val % 32) + x.val) := by
  have e0 := off1_0 t
  have e1 := off1_1 t
  refine (at2_eq A _ ?_ ?_).symm
  · show k0_off1 (grid0.coords t) 0 + 1 * p.val = _; omega
  · show k0_off1 (grid0.coords t) 1 + 1 * x.val = _; omega

end Cert.KernelIdeal.Hand

end
-- ==== Proof.IdealValues.lean ====
/-
  The weight-gradient kernel over the reals: what each of its arrays holds after every fair execution. The product's entry
  `(i, q)` is the sum over all tokens, block by block, of an `x` code times the clipped scaled `dy` entry, times the second
  word of the scale pair; the codes' entry `(q, y)` is the clipped scaled `dy` entry `(y, q)`.
-/
module

public import proofs.«01_k».proof.Proof.IdealBlocks

@[expose] public section

set_option maxHeartbeats 1600000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose Clip Window)
open Finset (range)

local notation "𝕄" => MT nD τ sig Unit (Elt Ideal) ℕ (Pipeline.UD sig nD τ) ℕ

variable (m : (ℓ : Loc nD τ sig) → Buf (Elt Ideal) ℓ) (ρ : Dev nD → PrngReg)

/-! ## The values, at natural coordinates -/

/-- The gradient entry of token `y`, column `q`, as the kernel is given it. -/
def dyAt (c : Dev nD) (y q : ℕ) : EReal := at2 (V m c main_v0) y q
/-- The `x` code of column `i`, token `y`. -/
def xtAt (c : Dev nD) (i y : ℕ) : EReal := at2 (V m c main_arg0) i y
/-- The scale pair: the inverse scale of `dy`, -/
def inv (c : Dev nD) : EReal := word0 (F := Ideal) (V m c main_v2)
/-- and the product of the two scales. -/
def post (c : Dev nD) : EReal := word1 (F := Ideal) (V m c main_v2)
/-- The code of column `q`, token `y`. -/
def codeAt (c : Dev nD) (q y : ℕ) : EReal := clip (dyAt m c y q * inv m c)
/-- What the token block `k` adds to the product's entry `(i, q)`. -/
def term (c : Dev nD) (i q k : ℕ) : EReal := ∑ x : Fin 1024, xtAt m c i (1024 * k + x.val) * codeAt m c q (1024 * k + x.val)

/-- The block of codes written at point `t`. -/
def codesAt (c : Dev nD) (t : Fin cfg0.N) : S256x1024.Idx → EReal :=
  fun j => codeAt m c (256 * (t.val / 32) + (j 0).val) (1024 * (t.val % 32) + (j 1).val)
/-- The block of the product after point `t`: the sum over the token blocks so far, scaled when it is the last. -/
def prodAt (c : Dev nD) (t : Fin cfg0.N) : S1664x256.Idx → EReal :=
  fun j => if t.val % 32 = 31 then (∑ k ∈ range 32, term m c (j 0).val (256 * (t.val / 32) + (j 1).val) k) * post m c
    else ∑ k ∈ range (t.val % 32 + 1), term m c (j 0).val (256 * (t.val / 32) + (j 1).val) k

/-- The scratch: the `x` codes once the first point has copied them, anything before. -/
def scr (c : Dev nD) (p : ℕ) : sProp 𝕄 :=
  if p = 0 then iprop(∃ d, owns (c : Thread nD τ) scM fullShare d)
  else owns (c : Thread nD τ) scM fullShare (hbM.view.read (Elt Ideal) (V m c main_arg0))

def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => win0_1.fill (grid0.coords t) (Pipeline.Dat.unnamed (cfg := cfg0) 1 t) (iblk m c 1 t)
    | ⟨2, _⟩ => prodAt m c t
    | ⟨3, _⟩ => codesAt m c t
  Φ p := iprop(scr m c p.val ∗ (∃ r, prngReg c r) ∗ iprop(semVal ((c : Thread nD τ), SemLoc.dma 7) 0) ∗ iprop(hbPt c hbM (V m c main_arg0)))
  q _ := fullShare
  owed _ := 0

theorem A_eq (c : Dev nD) (w : Fin cfg0.W) : (dats m 0 c).A w = V m c (Pipeline.arrRef spec0 w) := by dsimp only [dats]

/-! ## The blocks the body finds -/

theorem word0_iblk (c : Dev nD) (t : Fin cfg0.N) : word0 (F := Ideal) (iblk m c 0 t) = inv m c := by
  unfold inv
  refine congrArg (V m c main_v2) (funext fun a => Fin.ext ?_)
  match a with
  | ⟨0, _⟩ => rfl
theorem word1_iblk (c : Dev nD) (t : Fin cfg0.N) : word1 (F := Ideal) (iblk m c 0 t) = post m c := by
  unfold post
  refine congrArg (V m c main_v2) (funext fun a => Fin.ext ?_)
  match a with
  | ⟨0, _⟩ => rfl

/-- An entry of the fetched `dy` block in a column of the array is the array's. -/
theorem fill1_apply (c : Dev nD) (t : Fin cfg0.N) (d) (j : S1024x256.Idx) (h : 256 * (t.val / 32) + (j 1).val < 19584) :
    win0_1.fill (grid0.coords t) d (iblk m c 1 t) j = dyAt m c (1024 * (t.val % 32) + (j 0).val) (256 * (t.val / 32) + (j 1).val) := by
  have hm := (moved1 t j).2 h
  unfold Window.fill
  rw [dif_pos hm]
  have e := emb1 t fun a => ⟨(j a).val, (win0_1.moved_iff (grid0.coords t) j).1 hm a⟩
  exact (at2_eq (V m c main_v0) _ e.1 e.2).symm

/-! ## What the body leaves -/

/-- The block of codes in the array's rows. -/
theorem codes_left (c : Dev nD) (t : Fin cfg0.N) (d) :
    win0_3.cut (grid0.coords t) (k0_pay2 (win0_1.fill (grid0.coords t) d (iblk m c 1 t)) (word0 (F := Ideal) (iblk m c 0 t)))
      = win0_3.cut (grid0.coords t) (codesAt m c t) := by
  funext y
  have h := (moved3 t _).1 (win0_3.moved_xinj (grid0.coords t) y)
  refine (pay2_apply _ _ _).trans ?_
  rw [word0_iblk, fill1_apply m c t d _ h]
  rfl

/-- One step of the sum, in a column of the array. -/
theorem pay4_left (c : Dev nD) (t : Fin cfg0.N) (d) (Y : Vec Ideal S1664x256 .f32) (j : S1664x256.Idx)
    (h : 256 * (t.val / 32) + (j 1).val < 19584) :
    k0_pay4 (win0_1.fill (grid0.coords t) d (iblk m c 1 t)) (word0 (F := Ideal) (iblk m c 0 t)) Y
        (codes (F := Ideal) (hbM.view.read (Elt Ideal) (V m c main_arg0)) (grid0.coords t)) j
      = Y j + term m c (j 0).val (256 * (t.val / 32) + (j 1).val) (t.val % 32) := by
  rw [pay4_apply, word0_iblk]
  refine congrArg (Y j + ·) (Finset.sum_congr rfl fun x _ => ?_)
  refine congr (congrArg _ (codes_apply t (V m c main_arg0) (j 0) x)) (congrArg (fun v => clip (v * inv m c)) ?_)
  exact fill1_apply m c t d (ix2 x (j 1)) h

/-- At the first token block, -/
theorem prod_open (c : Dev nD) (t : Fin cfg0.N) (ht : t.val % 32 = 0) (d) :
    win0_2.cut (grid0.coords t) (k0_pay4 (win0_1.fill (grid0.coords t) d (iblk m c 1 t)) (word0 (F := Ideal) (iblk m c 0 t)) (k0_pay3 (F := Ideal))
        (codes (F := Ideal) (hbM.view.read (Elt Ideal) (V m c main_arg0)) (grid0.coords t)))
      = win0_2.cut (grid0.coords t) (prodAt m c t) := by
  funext y
  have h := (moved2 t _).1 (win0_2.moved_xinj (grid0.coords t) y)
  refine (pay4_left m c t d _ _ h).trans ?_
  show _ = prodAt m c t _
  unfold prodAt
  rw [pay3_apply, zero_add, if_neg (by omega), ht, zero_add, Finset.sum_range_one]

/-- What the accumulator holds before a later one, in a column of the array: the sum so far. -/
theorem before2_apply (c : Dev nD) (t : Fin cfg0.N) (ht : t.val % 32 ≠ 0) (d) (j : S1664x256.Idx)
    (h : 256 * (t.val / 32) + (j 1).val < 19584) :
    (dats m 0 c).before 2 t d j = ∑ k ∈ range (t.val % 32), term m c (j 0).val (256 * (t.val / 32) + (j 1).val) k := by
  have h0 : t.val ≠ 0 := fun e => ht (by rw [e])
  have hfl : (cfg0.win 2).flush ⟨t.val - 1, Nat.lt_of_le_of_lt (Nat.sub_le _ _) t.isLt⟩ = false := by
    refine eq_false_of_ne_true fun e => ?_
    have := (flush0_2 _).1 e
    have e' : (t.val - 1) % 32 = 31 := this
    omega
  rw [(dats m 0 c).before_out_acc 2 rfl t h0 hfl (fun _ => rfl) d]
  have e1 : (t.val - 1) / 32 = t.val / 32 := by omega
  have e2 : (t.val - 1) % 32 + 1 = t.val % 32 := by omega
  have hm := (moved2 ⟨t.val - 1, Nat.lt_of_le_of_lt (Nat.sub_le _ _) t.isLt⟩ j).2 (by show 256 * ((t.val - 1) / 32) + _ < _; rw [e1]; exact h)
  show win0_2.fill _ d (win0_2.cut _ (prodAt m c _)) j = _
  unfold Window.fill
  rw [dif_pos hm]
  show prodAt m c _ j = _
  unfold prodAt
  rw [if_neg (by show ¬ (t.val - 1) % 32 = 31; omega)]
  show ∑ k ∈ range ((t.val - 1) % 32 + 1), term m c _ (256 * ((t.val - 1) / 32) + _) k = _
  rw [e1, e2]

/-- at a middle one, -/
theorem prod_mid (c : Dev nD) (t : Fin cfg0.N) (ht : t.val % 32 ≠ 0) (ht' : t.val % 32 ≠ 31) (d d2) :
    win0_2.cut (grid0.coords t) (k0_pay4 (win0_1.fill (grid0.coords t) d (iblk m c 1 t)) (word0 (F := Ideal) (iblk m c 0 t)) ((dats m 0 c).before 2 t d2)
        (codes (F := Ideal) (hbM.view.read (Elt Ideal) (V m c main_arg0)) (grid0.coords t)))
      = win0_2.cut (grid0.coords t) (prodAt m c t) := by
  funext y
  have h := (moved2 t _).1 (win0_2.moved_xinj (grid0.coords t) y)
  refine (pay4_left m c t d _ _ h).trans ?_
  show _ = prodAt m c t _
  unfold prodAt
  rw [before2_apply m c t ht d2 _ h, if_neg ht', Finset.sum_range_succ]

/-- and at the last. -/
theorem prod_close (c : Dev nD) (t : Fin cfg0.N) (ht : t.val % 32 = 31) (d d2) :
    win0_2.cut (grid0.coords t) (k0_pay1 (k0_pay4 (win0_1.fill (grid0.coords t) d (iblk m c 1 t)) (word0 (F := Ideal) (iblk m c 0 t)) ((dats m 0 c).before 2 t d2)
        (codes (F := Ideal) (hbM.view.read (Elt Ideal) (V m c main_arg0)) (grid0.coords t))) (word1 (F := Ideal) (iblk m c 0 t)))
      = win0_2.cut (grid0.coords t) (prodAt m c t) := by
  funext y
  have h := (moved2 t _).1 (win0_2.moved_xinj (grid0.coords t) y)
  refine (pay1_apply _ _ _).trans ?_
  rw [pay4_left m c t d _ _ h, before2_apply m c t (by omega) d2 _ h, word1_iblk]
  show _ = prodAt m c t _
  unfold prodAt
  rw [if_pos ht, ht, ← Finset.sum_range_succ]

/-! ## The body at every point -/

/-- The body at point `t` takes what is held before the point to what is held after it. -/
theorem body_point (c : Dev nD) (t : Fin cfg0.N) :
    iprop(scr m c t.val ∗ (∃ r, prngReg c r) ∗ semVal ((c : Thread nD τ), SemLoc.dma 7) 0 ∗ hbPt c hbM (V m c main_arg0)
        ∗ (∃ W : Waits sig Unit, ⌜(↑W : Set _) ⊆ (dats m 0 c).bound () t.castSucc⌝ ∗ owes (c : Thread nD τ) 0 W)
        ∗ owns (c : Thread nD τ) (win0_0.stage (cfg0.slots t 0)) fullShare (iblk m c 0 t)
        ∗ (∃ d, owns (c : Thread nD τ) (win0_1.stage (cfg0.slots t 1)) fullShare (win0_1.fill (grid0.coords t) d (iblk m c 1 t)))
        ∗ (∃ d, owns (c : Thread nD τ) (win0_2.stage (cfg0.slots t 2)) fullShare ((dats m 0 c).before 2 t d))
        ∗ (∃ d, owns (c : Thread nD τ) (win0_3.stage (cfg0.slots t 3)) fullShare d))
      ⊢ wp frame (wpE (defs₀ (F := Ideal)) Variants.none c none) Set.univ (bodyAt0 t) fun _ =>
        iprop(owns (c : Thread nD τ) scM fullShare (hbM.view.read (Elt Ideal) (V m c main_arg0)) ∗ (∃ r, prngReg c r)
        ∗ semVal ((c : Thread nD τ), SemLoc.dma 7) 0 ∗ hbPt c hbM (V m c main_arg0)
        ∗ (∃ W : Waits sig Unit, ⌜(↑W : Set _) ⊆ (dats m 0 c).bound () t.castSucc⌝ ∗ owes (c : Thread nD τ) 0 W)
        ∗ owns (c : Thread nD τ) (win0_0.stage (cfg0.slots t 0)) fullShare (iblk m c 0 t)
        ∗ (∃ d, owns (c : Thread nD τ) (win0_1.stage (cfg0.slots t 1)) fullShare (win0_1.fill (grid0.coords t) d (win0_1.cut (grid0.coords t) (win0_1.fill (grid0.coords t) (Pipeline.Dat.unnamed (cfg := cfg0) 1 t) (iblk m c 1 t)))))
        ∗ (∃ d, owns (c : Thread nD τ) (win0_2.stage (cfg0.slots t 2)) fullShare (win0_2.fill (grid0.coords t) d (win0_2.cut (grid0.coords t) (prodAt m c t))))
        ∗ (∃ d, owns (c : Thread nD τ) (win0_3.stage (cfg0.slots t 3)) fullShare (win0_3.fill (grid0.coords t) d (win0_3.cut (grid0.coords t) (codesAt m c t))))) := by
  have hc0 := coords0 t
  have hc1 := coords1 t
  by_cases h0 : t.val = 0
  · rw [show scr m c t.val = iprop(∃ d, owns (c : Thread nD τ) scM fullShare d) from if_pos h0]
    iintro ⟨HS, Hg, Hq, Hh, ⟨%W, %hW, HO⟩, H0, ⟨%d1, H1⟩, ⟨%d2, H2⟩, ⟨%d3, H3⟩⟩
    unfold bodyAt0
    iapply (run_first (F := Ideal) c (grid0.coords t) (by rw [hc0, h0]) (by rw [hc1, h0]) (win0_0.stage (cfg0.slots t 0)) _ (win0_1.stage (cfg0.slots t 1)) _
      (win0_2.stage (cfg0.slots t 2)) _ (win0_3.stage (cfg0.slots t 3)) _ (iblk m c 0 t)
      (win0_1.fill (grid0.coords t) d1 (iblk m c 1 t)) (V m c main_arg0) W _)
    isplitl [H0]; · iexact H0
    isplitl [H1]; · iexact H1
    isplitl [H2]; · iexists _; iexact H2
    isplitl [H3]; · iexists _; iexact H3
    isplitl [HS]; · iexact HS
    isplitl [Hq]; · iexact Hq
    isplitl [Hh]; · iexact Hh
    isplitl [HO]; · iexact HO
    iintro ⟨H0, H1, H2, H3, HS, Hq, Hh, ⟨%W', HO⟩⟩
    isplitl [HS]; · iexact HS
    isplitl [Hg]; · iexact Hg
    isplitl [Hq]; · iexact Hq
    isplitl [Hh]; · iexact Hh
    isplitl [HO]
    · iexists W'; isplitr; · ipureintro; exact fun _ _ => Or.inl trivial
      iexact HO
    isplitl [H0]; · iexact H0
    isplitl [H1]
    · iexists d1
      rw [win0_1.cut_fill]; try iexact H1
    isplitl [H2]
    · iexists k0_pay4 (F := Ideal) (win0_1.fill (grid0.coords t) d1 (iblk m c 1 t)) (word0 (F := Ideal) (iblk m c 0 t)) (k0_pay3 (F := Ideal)) (codes (F := Ideal) (hbM.view.read (Elt Ideal) (V m c main_arg0)) (grid0.coords t))
      rw [win0_2.fill_congr_cut _ (prod_open m c t (by rw [h0]) d1)]; try iexact H2
    · iexists k0_pay2 (F := Ideal) (win0_1.fill (grid0.coords t) d1 (iblk m c 1 t)) (word0 (F := Ideal) (iblk m c 0 t))
      rw [win0_3.fill_congr_cut _ (codes_left m c t d1)]; try iexact H3
  have hne : ¬ ((grid0.coords t 0).val = 0 ∧ (grid0.coords t 1).val = 0) := by rw [hc0, hc1]; omega
  rw [show scr m c t.val = owns (c : Thread nD τ) scM fullShare (hbM.view.read (Elt Ideal) (V m c main_arg0)) from if_neg h0]
  by_cases hk0 : t.val % 32 = 0
  · iintro ⟨HS, Hg, Hq, Hh, ⟨%W, %hW, HO⟩, H0, ⟨%d1, H1⟩, ⟨%d2, H2⟩, ⟨%d3, H3⟩⟩
    unfold bodyAt0
    iapply (run_open (F := Ideal) c (grid0.coords t) hne (by rw [hc1, hk0]) (win0_0.stage (cfg0.slots t 0)) _ (win0_1.stage (cfg0.slots t 1)) _
      (win0_2.stage (cfg0.slots t 2)) _ (win0_3.stage (cfg0.slots t 3)) _ (iblk m c 0 t)
      (win0_1.fill (grid0.coords t) d1 (iblk m c 1 t)) (hbM.view.read (Elt Ideal) (V m c main_arg0)) _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [HS]; · iexact HS
    isplitl [Hg]; · iexact Hg
    isplitl [Hq]; · iexact Hq
    isplitl [Hh]; · iexact Hh
    isplitl [HO]
    · iexists W; isplitr; · ipureintro; exact hW
      iexact HO
    isplitl [H0]; · iexact H0
    isplitl [H1]
    · iexists d1
      rw [win0_1.cut_fill]; try iexact H1
    isplitl [H2]
    · iexists k0_pay4 (F := Ideal) (win0_1.fill (grid0.coords t) d1 (iblk m c 1 t)) (word0 (F := Ideal) (iblk m c 0 t)) (k0_pay3 (F := Ideal)) (codes (F := Ideal) (hbM.view.read (Elt Ideal) (V m c main_arg0)) (grid0.coords t))
      rw [win0_2.fill_congr_cut _ (prod_open m c t hk0 d1)]; try iexact H2
    · iexists k0_pay2 (F := Ideal) (win0_1.fill (grid0.coords t) d1 (iblk m c 1 t)) (word0 (F := Ideal) (iblk m c 0 t))
      rw [win0_3.fill_congr_cut _ (codes_left m c t d1)]; try iexact H3
  by_cases hk31 : t.val % 32 = 31
  · iintro ⟨HS, Hg, Hq, Hh, ⟨%W, %hW, HO⟩, H0, ⟨%d1, H1⟩, ⟨%d2, H2⟩, ⟨%d3, H3⟩⟩
    unfold bodyAt0
    iapply (run_close (F := Ideal) c (grid0.coords t) hne (by rw [hc1, hk31]) (win0_0.stage (cfg0.slots t 0)) _ (win0_1.stage (cfg0.slots t 1)) _
      (win0_2.stage (cfg0.slots t 2)) _ (win0_3.stage (cfg0.slots t 3)) _ (iblk m c 0 t)
      (win0_1.fill (grid0.coords t) d1 (iblk m c 1 t)) ((dats m 0 c).before 2 t d2) (hbM.view.read (Elt Ideal) (V m c main_arg0)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS]; · iexact HS
    isplitl [Hg]; · iexact Hg
    isplitl [Hq]; · iexact Hq
    isplitl [Hh]; · iexact Hh
    isplitl [HO]
    · iexists W; isplitr; · ipureintro; exact hW
      iexact HO
    isplitl [H0]; · iexact H0
    isplitl [H1]
    · iexists d1
      rw [win0_1.cut_fill]; try iexact H1
    isplitl [H2]
    · iexists k0_pay1 (F := Ideal) (k0_pay4 (F := Ideal) (win0_1.fill (grid0.coords t) d1 (iblk m c 1 t)) (word0 (F := Ideal) (iblk m c 0 t)) ((dats m 0 c).before 2 t d2) (codes (F := Ideal) (hbM.view.read (Elt Ideal) (V m c main_arg0)) (grid0.coords t))) (word1 (F := Ideal) (iblk m c 0 t))
      rw [win0_2.fill_congr_cut _ (prod_close m c t hk31 d1 d2)]; try iexact H2
    · iexists k0_pay2 (F := Ideal) (win0_1.fill (grid0.coords t) d1 (iblk m c 1 t)) (word0 (F := Ideal) (iblk m c 0 t))
      rw [win0_3.fill_congr_cut _ (codes_left m c t d1)]; try iexact H3
  · iintro ⟨HS, Hg, Hq, Hh, ⟨%W, %hW, HO⟩, H0, ⟨%d1, H1⟩, ⟨%d2, H2⟩, ⟨%d3, H3⟩⟩
    unfold bodyAt0
    iapply (run_mid (F := Ideal) c (grid0.coords t) hne (by rw [hc1]; exact hk0) (by rw [hc1]; exact hk31) (win0_0.stage (cfg0.slots t 0)) _ (win0_1.stage (cfg0.slots t 1)) _
      (win0_2.stage (cfg0.slots t 2)) _ (win0_3.stage (cfg0.slots t 3)) _ (iblk m c 0 t)
      (win0_1.fill (grid0.coords t) d1 (iblk m c 1 t)) ((dats m 0 c).before 2 t d2) (hbM.view.read (Elt Ideal) (V m c main_arg0)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS]; · iexact HS
    isplitl [Hg]; · iexact Hg
    isplitl [Hq]; · iexact Hq
    isplitl [Hh]; · iexact Hh
    isplitl [HO]
    · iexists W; isplitr; · ipureintro; exact hW
      iexact HO
    isplitl [H0]; · iexact H0
    isplitl [H1]
    · iexists d1
      rw [win0_1.cut_fill]; try iexact H1
    isplitl [H2]
    · iexists k0_pay4 (F := Ideal) (win0_1.fill (grid0.coords t) d1 (iblk m c 1 t)) (word0 (F := Ideal) (iblk m c 0 t)) ((dats m 0 c).before 2 t d2) (codes (F := Ideal) (hbM.view.read (Elt Ideal) (V m c main_arg0)) (grid0.coords t))
      rw [win0_2.fill_congr_cut _ (prod_mid m c t hk0 hk31 d1 d2)]; try iexact H2
    · iexists k0_pay2 (F := Ideal) (win0_1.fill (grid0.coords t) d1 (iblk m c 1 t)) (word0 (F := Ideal) (iblk m c 0 t))
      rw [win0_3.fill_congr_cut _ (codes_left m c t d1)]; try iexact H3

/-- The same, as the pipeline asks for it. -/
theorem body_obligation (c : Dev nD) :
    BodyObligationLoose (dats m 0 c) (defs₀ (F := Ideal)) Variants.none () Set.univ := fun t => by
  rw [bigSep_W0, bigSep_W0, defs₀_row]
  rw [show (dats m 0 c).owesAt () t.succ = (dats m 0 c).owesAt () t.castSucc from rfl,
    show (dats m 0 c).Φ t.succ = iprop(scr m c t.succ.val ∗ (∃ r, prngReg c r) ∗ iprop(semVal ((c : Thread nD τ), SemLoc.dma 7) 0) ∗ iprop(hbPt c hbM (V m c main_arg0))) from rfl,
    show (dats m 0 c).Φ t.castSucc = iprop(scr m c t.val ∗ (∃ r, prngReg c r) ∗ iprop(semVal ((c : Thread nD τ), SemLoc.dma 7) 0) ∗ iprop(hbPt c hbM (V m c main_arg0))) from rfl,
    show scr m c t.succ.val = owns (c : Thread nD τ) scM fullShare (hbM.view.read (Elt Ideal) (V m c main_arg0)) from if_neg (Nat.succ_ne_zero t.val)]
  unfold Dat.owesAt Pipeline.owesWithin
  rw [show (dats m 0 c).owed t.castSucc = 0 from rfl]
  refine .trans ?_ ((body_point m c t).trans (wp_mono _ _ _ fun _ => ?_))
  · iintro ⟨⟨HS, Hg, Hq, Hh⟩, HO, ⟨%d0, H0⟩, ⟨%d1, H1⟩, ⟨%d2, H2⟩, ⟨%d3, H3⟩⟩
    rw [before0_0 m (dats m 0 c) rfl (fun _ => rfl) t d0, before0_1 m (dats m 0 c) rfl t d1]
    isplitl [HS]; · iexact HS
    isplitl [Hg]; · iexact Hg
    isplitl [Hq]; · iexact Hq
    isplitl [Hh]; · iexact Hh
    isplitl [HO]; · iexact HO
    isplitl [H0]; · iexact H0
    isplitl [H1]; · iexists d1; iexact H1
    isplitl [H2]; · iexists d2; iexact H2
    iexists _; iexact H3
  · iintro ⟨HS, Hg, Hq, Hh, HO, H0, H1, H2, H3⟩
    isplitl [HS Hg Hq Hh]
    · isplitl [HS]; · iexact HS
      isplitl [Hg]; · iexact Hg
      isplitl [Hq]; · iexact Hq
      iexact Hh
    isplitl [HO]; · iexact HO
    isplitl [H0]; · iexact H0
    isplitl [H1]; · iexact H1
    isplitl [H2]; · iexact H2
    iexact H3

set_option backward.isDefEq.respectTransparency.types false in
/-- Every fair execution of the program ends; each window's array holds what the proof data say, every other buffer what it
    held, and every counter is zero. -/
theorem run_main :
    θ_run defs (onTc (τ := τ) (main (F := Ideal))) (s₀ m ρ)
      (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => body_obligation m c) (hshare := fun c => (dats m 0 c).share_full fun _ => rfl)
    (howed := fun _ _ => rfl) (V := V m) (hmain := hmainD m Variants.none) (hA := A_eq m)
    (hin := fun c => by rw [PhiD0_eq]; exact .rfl)
    (hout := fun c => by
      rw [PhiD0_eq, show (dats m 0 c).Φ (Fin.last cfg0.N) = iprop(scr m c 2464 ∗ (∃ r, prngReg c r) ∗ iprop(semVal ((c : Thread nD τ), SemLoc.dma 7) 0) ∗ iprop(hbPt c hbM (V m c main_arg0))) from rfl,
        show scr m c 2464 = owns (c : Thread nD τ) scM fullShare (hbM.view.read (Elt Ideal) (V m c main_arg0)) from if_neg (by decide)]
      iintro ⟨HS, Hg, Hq, Hh⟩
      isplitl [HS]
      · iexists _; iexact HS
      isplitl [Hg]; · iexact Hg
      isplitl [Hq]; · iexact Hq
      iexact Hh)

end Cert.KernelIdeal.Hand

end
-- ==== Proof.IdealArrays.lean ====
/-
  The two result arrays of the weight-gradient kernel over the reals, in closed form, and the run that leaves them.
-/
module

public import proofs.«01_k».proof.Proof.IdealValues

@[expose] public section

set_option maxHeartbeats 800000

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Clip Window)
open Finset (range)

variable (m : (ℓ : Loc nD τ sig) → Buf (Elt Ideal) ℓ) (ρ : Dev nD → PrngReg)

/-- The product: entry `(i, q)` sums the codes' products over all token blocks and scales the sum. -/
def prodOf (c : Dev nD) : S1664x19584.Idx → EReal := fun i => (∑ k ∈ range 32, term m c (i 0).val (i 1).val k) * post m c
/-- The transposed codes. -/
def codesOf (c : Dev nD) : S19584x32768.Idx → EReal := fun i => codeAt m c (i 0).val (i 1).val

theorem mem_blk2 (t : Fin cfg0.N) (i : S1664x19584.Idx) (h : 256 * (t.val / 32) ≤ (i 1).val) (h' : (i 1).val < 256 * (t.val / 32) + 256) :
    i ∈ (win0_2.blk t).view.set := by
  show i ∈ ((View.whole main_v3_0).slice (win0_2.rect t)).set
  rw [View.set_slice_whole, Rect.mem_set_unit]
  have h0 : (i 0).val < 1664 := (i 0).isLt
  have h1 : (i 1).val < 19584 := (i 1).isLt
  have e0 : (i 0).val < win0_2.xsize (grid0.coords t) 0 ↔ cc0_transform_3 (grid0.coords t) 0 * 1664 + (i 0).val < 1664 :=
    lt_extent (ix := cc0_transform_3 (grid0.coords t) 0) (k := 1664) (d := 1664) h0
  have e1 : (i 1).val - 256 * (t.val / 32) < win0_2.xsize (grid0.coords t) 1
      ↔ cc0_transform_3 (grid0.coords t) 1 * 256 + ((i 1).val - 256 * (t.val / 32)) < 19584 := lt_extent (k := 256) (by omega)
  rw [idx2_0] at e0
  rw [idx2_1] at e1
  have a0 := e0.2 (by omega)
  have a1 := e1.2 (by omega)
  intro a
  match a with
  | ⟨0, _⟩ =>
    show cc0_transform_3 (grid0.coords t) 0 * 1664 ≤ (i 0).val ∧ (i 0).val < cc0_transform_3 (grid0.coords t) 0 * 1664 + win0_2.xsize (grid0.coords t) 0
    rw [idx2_0]; omega
  | ⟨1, _⟩ =>
    show cc0_transform_3 (grid0.coords t) 1 * 256 ≤ (i 1).val ∧ (i 1).val < cc0_transform_3 (grid0.coords t) 1 * 256 + win0_2.xsize (grid0.coords t) 1
    rw [idx2_1]; omega

theorem mem_blk3 (t : Fin cfg0.N) (i : S19584x32768.Idx) (h : 256 * (t.val / 32) ≤ (i 0).val) (h' : (i 0).val < 256 * (t.val / 32) + 256)
    (g : 1024 * (t.val % 32) ≤ (i 1).val) (g' : (i 1).val < 1024 * (t.val % 32) + 1024) :
    i ∈ (win0_3.blk t).view.set := by
  show i ∈ ((View.whole main_v3_1).slice (win0_3.rect t)).set
  rw [View.set_slice_whole, Rect.mem_set_unit]
  have h0 : (i 0).val < 19584 := (i 0).isLt
  have h1 : (i 1).val < 32768 := (i 1).isLt
  have e0 : (i 0).val - 256 * (t.val / 32) < win0_3.xsize (grid0.coords t) 0
      ↔ cc0_transform_4 (grid0.coords t) 0 * 256 + ((i 0).val - 256 * (t.val / 32)) < 19584 := lt_extent (k := 256) (by omega)
  have e1 : (i 1).val - 1024 * (t.val % 32) < win0_3.xsize (grid0.coords t) 1
      ↔ cc0_transform_4 (grid0.coords t) 1 * 1024 + ((i 1).val - 1024 * (t.val % 32)) < 32768 := lt_extent (k := 1024) (by omega)
  rw [idx3_0] at e0
  rw [idx3_1] at e1
  have a0 := e0.2 (by omega)
  have a1 := e1.2 (by omega)
  intro a
  match a with
  | ⟨0, _⟩ =>
    show cc0_transform_4 (grid0.coords t) 0 * 256 ≤ (i 0).val ∧ (i 0).val < cc0_transform_4 (grid0.coords t) 0 * 256 + win0_3.xsize (grid0.coords t) 0
    rw [idx3_0]; omega
  | ⟨1, _⟩ =>
    show cc0_transform_4 (grid0.coords t) 1 * 1024 ≤ (i 1).val ∧ (i 1).val < cc0_transform_4 (grid0.coords t) 1 * 1024 + win0_3.xsize (grid0.coords t) 1
    rw [idx3_1]; omega

/-- The product's array at the end. -/
theorem arr2 (c : Dev nD) : (dats m 0 c).arrAt 2 cfg0.N = prodOf m c := by
  refine (dats m 0 c).arrAt_eq_of_cover 2 (prodOf m c) (fun t hf => ?_) (fun i => ?_)
  · have ht : t.val % 32 = 31 := (flush0_2 t).1 hf
    funext y
    show prodAt m c t (win0_2.xinj (grid0.coords t) y) = prodOf m c ((win0_2.rect t).emb y)
    have e := emb2 t y
    unfold prodAt prodOf
    rw [if_pos ht, e.1, e.2]
  · have h0 : (i 0).val < 1664 := (i 0).isLt
    have h1 : (i 1).val < 19584 := (i 1).isLt
    have hN : 32 * ((i 1).val / 256) + 31 < cfg0.N := by show _ < 2464; omega
    exact ⟨⟨32 * ((i 1).val / 256) + 31, hN⟩, (flush0_2 _).2 (by show (32 * ((i 1).val / 256) + 31) % 32 = 31; omega),
      mem_blk2 _ i (by show 256 * ((32 * ((i 1).val / 256) + 31) / 32) ≤ _; omega) (by show _ < 256 * ((32 * ((i 1).val / 256) + 31) / 32) + 256; omega)⟩

/-- The codes' array at the end. -/
theorem arr3 (c : Dev nD) : (dats m 0 c).arrAt 3 cfg0.N = codesOf m c := by
  refine (dats m 0 c).arrAt_eq_of_cover 3 (codesOf m c) (fun t hf => ?_) (fun i => ?_)
  · funext y
    show codesAt m c t (win0_3.xinj (grid0.coords t) y) = codesOf m c ((win0_3.rect t).emb y)
    have e := emb3 t y
    unfold codesAt codesOf
    rw [e.1, e.2]
  · have h0 : (i 0).val < 19584 := (i 0).isLt
    have h1 : (i 1).val < 32768 := (i 1).isLt
    have hN : 32 * ((i 0).val / 256) + (i 1).val / 1024 < cfg0.N := by show _ < 2464; omega
    have e1 : (32 * ((i 0).val / 256) + (i 1).val / 1024) / 32 = (i 0).val / 256 := by omega
    have e2 : (32 * ((i 0).val / 256) + (i 1).val / 1024) % 32 = (i 1).val / 1024 := by omega
    exact ⟨⟨32 * ((i 0).val / 256) + (i 1).val / 1024, hN⟩, flush0_3 _,
      mem_blk3 _ i (by show 256 * ((32 * ((i 0).val / 256) + (i 1).val / 1024) / 32) ≤ _; omega)
        (by show _ < 256 * ((32 * ((i 0).val / 256) + (i 1).val / 1024) / 32) + 256; omega)
        (by show 1024 * ((32 * ((i 0).val / 256) + (i 1).val / 1024) % 32) ≤ _; omega)
        (by show _ < 1024 * ((32 * ((i 0).val / 256) + (i 1).val / 1024) % 32) + 1024; omega)⟩

/-- Every fair execution ends with the two results in closed form, the arguments as they were and every counter at zero. -/
theorem run_values :
    θ_run defs (onTc (τ := τ) (main (F := Ideal))) ⟨m, fun _ => 0, ρ⟩ (fun r => (∀ c : Dev nD,
      r.2.mem ((c.tc : Thread nD τ).loc main_v3_0) = prodOf m c
      ∧ r.2.mem ((c.tc : Thread nD τ).loc main_v3_1) = codesOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).1 2).trans (arr2 m c), ((h.1 c).1 3).trans (arr3 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_main m ρ)

end Cert.KernelIdeal.Hand

end
-- ==== Proof.ReferenceValue.lean ====
/-
  The reference over the reals: its two result arrays, entry by entry. The product's entry `(i, q)` is one sum over all
  32768 tokens of an `x` code times the clipped scaled `dy` entry, times the scale; the codes' entry `(q, y)` is the clipped
  scaled `dy` entry.
-/
module

public import proofs.«01_k».proof.Proof.Gen.ReferenceIdeal.Value
public import Idealize.ShloMosaic.Lib.VecWindow
public import Idealize.ShloMosaic.Lib.Pointwise.Tactic
public import Idealize.ShloMosaic.Lib.Pointwise

@[expose] public section

set_option maxHeartbeats 800000

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open Idealize.ShloMosaic.Pipeline (Dat)

/-! ## What the body leaves -/

section
variable {F : FTy → Type} [FloatOps F]

/-- The one word of an array of one element. -/
abbrev word (X : S1.Idx → Elt F .f32) : Elt F .f32 := X fun a => ⟨0, by fin_cases a; decide⟩

theorem readAt_word (v : View sig .tc .smem S1 .f32) (f : v.ty.Contents (Elt F)) (h) :
    View.readAt (Elt F) v (Rect.unit (s := S1) ![0] S1.size inb_S1_S1_0).toLoadRect f (Shape.Idx.first h) = word (v.read (Elt F) f) := by
  rw [View.readAt_apply]
  exact congrArg (v.read (Elt F) f) (funext fun a => by fin_cases a; rfl)

theorem pay1_congr {a a' : Vec F S19584x32768 .bf16} {b b' : Elt F .f32} (ha : a = a') (hb : b = b') : k0_pay1 a b = k0_pay1 a' b' := by
  subst ha hb; rfl
theorem pay2_congr {a a' : Vec F S19584x32768 .bf16} {b b' : Elt F .f32} {r r' : Vec F S1664x32768 .fp8e4m3} {s s' : Elt F .f32}
    (ha : a = a') (hb : b = b') (hr : r = r') (hs : s = s') : k0_pay2 a b r s = k0_pay2 a' b' r' s' := by
  subst ha hb hr hs; rfl

theorem out4_eq (c : Dev nD) (arg0 : Memref sig .tc .vmem S1664x32768 .fp8e4m3) (harg0 : arg0.IsWhole) (arg1 : Memref sig .tc .vmem S19584x32768 .bf16) (harg1 : arg1.IsWhole) (arg2 : Memref sig .tc .smem S1 .f32) (harg2 : arg2.IsWhole) (arg3 : Memref sig .tc .smem S1 .f32) (harg3 : arg3.IsWhole) (arg4 : Memref sig .tc .vmem S1664x19584 .f32) (harg4 : arg4.IsWhole) (arg5 : Memref sig .tc .vmem S19584x32768 .fp8e5m2) (harg5 : arg5.IsWhole)
    (x0 : Vec F S1664x32768 .fp8e4m3) (x1 : Vec F S19584x32768 .bf16) (x2 : Vec F S1 .f32) (x3 : Vec F S1 .f32) :
    out0_A_4 c arg0 harg0 arg1 harg1 arg2 harg2 arg3 harg3 arg4 harg4 arg5 harg5 x0 x1 x2 x3 = k0_pay2 x1 (word x2) x0 (word x3) := by
  unfold out0_A_4
  exact (View.read_writes_full _ _ inb_S1664x19584_S1664x19584_0_0 _ _).trans
    (pay2_congr ((View.readAt_full _ _ _).trans (harg1.read_unread _)) ((readAt_word _ _ _).trans (congrArg word (harg2.read_unread _)))
      ((View.readAt_full _ _ _).trans (harg0.read_unread _)) ((readAt_word _ _ _).trans (congrArg word (harg3.read_unread _))))

theorem out5_eq (c : Dev nD) (arg0 : Memref sig .tc .vmem S1664x32768 .fp8e4m3) (harg0 : arg0.IsWhole) (arg1 : Memref sig .tc .vmem S19584x32768 .bf16) (harg1 : arg1.IsWhole) (arg2 : Memref sig .tc .smem S1 .f32) (harg2 : arg2.IsWhole) (arg3 : Memref sig .tc .smem S1 .f32) (harg3 : arg3.IsWhole) (arg4 : Memref sig .tc .vmem S1664x19584 .f32) (harg4 : arg4.IsWhole) (arg5 : Memref sig .tc .vmem S19584x32768 .fp8e5m2) (harg5 : arg5.IsWhole)
    (x0 : Vec F S1664x32768 .fp8e4m3) (x1 : Vec F S19584x32768 .bf16) (x2 : Vec F S1 .f32) (x3 : Vec F S1 .f32) :
    out0_A_5 c arg0 harg0 arg1 harg1 arg2 harg2 arg3 harg3 arg4 harg4 arg5 harg5 x0 x1 x2 x3 = k0_pay1 x1 (word x2) := by
  unfold out0_A_5
  exact (View.read_writes_full _ _ inb_S19584x32768_S19584x32768_0_0 _ _).trans
    (pay1_congr ((View.readAt_full _ _ _).trans (harg1.read_unread _)) ((readAt_word _ _ _).trans (congrArg word (harg2.read_unread _))))
end

/-! ## The arithmetic at one entry -/

/-- Clipping to the largest finite `f8e5m2` number, 57344, on either side. -/
def clip (v : EReal) : EReal := min (Ideal.ofBits .f32 0x47600000#32) (max (Ideal.ofBits .f32 0xC7600000#32) v)

theorem pay1_apply (X : Vec Ideal S19584x32768 .bf16) (w : EReal) (j : S19584x32768.Idx) : k0_pay1 X w j = clip (X j * w) := by
  unfold k0_pay1 clip; pointwise
theorem pay2_apply (X : Vec Ideal S19584x32768 .bf16) (w : EReal) (S : Vec Ideal S1664x32768 .fp8e4m3) (s : EReal) (j : S1664x19584.Idx) :
    k0_pay2 X w S s j = (∑ y : Fin 32768, S (ix2 (j 0) y) * clip (X (ix2 (j 1) y) * w)) * s := by
  have h : k0_pay2 X w S s j = (∑ y : Fin 32768, S (ix2 (j 0) y) * k0_pay1 X w (ix2 (j 1) y)) * s := by
    unfold k0_pay2; pointwise
  rw [h]
  refine congrArg (· * s) (Finset.sum_congr rfl fun x _ => ?_)
  rw [pay1_apply]

/-! ## The arrays -/

variable (m : (ℓ : Loc nD τ sig) → Buf (Elt Ideal) ℓ) (ρ : Dev nD → PrngReg)

/-- The product. -/
def prodOf (c : Dev nD) : S1664x19584.Idx → EReal :=
  k0_pay2 (F := Ideal) (V m c main_v1) (word (F := Ideal) (V m c main_arg4)) (V m c main_arg0) (word (F := Ideal) (V m c main_v2))
/-- The codes. -/
def codesOf (c : Dev nD) : S19584x32768.Idx → EReal := k0_pay1 (F := Ideal) (V m c main_v1) (word (F := Ideal) (V m c main_arg4))

/-- The one point's block of each window is its whole array. -/
theorem iblk0 (c : Dev nD) (t : Fin cfg0.N) : iblk (F := Ideal) m c 0 t = V m c main_arg0 := by
  funext y
  refine congrArg (V m c main_arg0) (funext fun a => Fin.ext ?_)
  exact (win0_0.rect_emb_val t y a).trans (by show 0 * _ + _ = _; rw [Nat.zero_mul, Nat.zero_add])
theorem iblk1 (c : Dev nD) (t : Fin cfg0.N) : iblk (F := Ideal) m c 1 t = V m c main_v1 := by
  funext y
  refine congrArg (V m c main_v1) (funext fun a => Fin.ext ?_)
  exact (win0_1.rect_emb_val t y a).trans (by show 0 * _ + _ = _; rw [Nat.zero_mul, Nat.zero_add])
theorem iblk2 (c : Dev nD) (t : Fin cfg0.N) : iblk (F := Ideal) m c 2 t = V m c main_arg4 := by
  funext y
  refine congrArg (V m c main_arg4) (funext fun a => Fin.ext ?_)
  exact (win0_2.rect_emb_val t y a).trans (by show 0 * _ + _ = _; rw [Nat.zero_mul, Nat.zero_add])
theorem iblk3 (c : Dev nD) (t : Fin cfg0.N) : iblk (F := Ideal) m c 3 t = V m c main_v2 := by
  funext y
  refine congrArg (V m c main_v2) (funext fun a => Fin.ext ?_)
  exact (win0_3.rect_emb_val t y a).trans (by show 0 * _ + _ = _; rw [Nat.zero_mul, Nat.zero_add])

/-- The product's array at the end. -/
theorem arr4 (c : Dev nD) : (dats m 0 c).arrAt 4 cfg0.N = prodOf m c := by
  refine (dats m 0 c).arrAt_eq_of_cover 4 (prodOf m c) (fun t hf => ?_) (fun i => ?_)
  · rw [Cert.ReferenceIdeal.Value.flushed4_A, out4_eq, iblk0, iblk1, iblk2, iblk3]
    funext y
    refine congrArg (prodOf m c) (funext fun a => Fin.ext ?_)
    exact ((win0_4.rect_emb_val t y a).trans (by show 0 * _ + _ = _; rw [Nat.zero_mul, Nat.zero_add])).symm
  · refine ⟨t0_0, flush0_4 _, ?_⟩
    show i ∈ ((View.whole main_v3_0).slice (win0_4.rect t0_0)).set
    rw [View.set_slice_whole, Rect.mem_set_unit]
    intro a
    have h := (i a).isLt
    show 0 * _ ≤ _ ∧ (i a).val < 0 * _ + _
    rw [Nat.zero_mul, Nat.zero_add]
    exact ⟨Nat.zero_le _, h⟩

/-- The codes' array at the end. -/
theorem arr5 (c : Dev nD) : (dats m 0 c).arrAt 5 cfg0.N = codesOf m c := by
  refine (dats m 0 c).arrAt_eq_of_cover 5 (codesOf m c) (fun t hf => ?_) (fun i => ?_)
  · rw [Cert.ReferenceIdeal.Value.flushed5_A, out5_eq, iblk1, iblk2]
    funext y
    refine congrArg (codesOf m c) (funext fun a => Fin.ext ?_)
    exact ((win0_5.rect_emb_val t y a).trans (by show 0 * _ + _ = _; rw [Nat.zero_mul, Nat.zero_add])).symm
  · refine ⟨t0_0, flush0_5 _, ?_⟩
    show i ∈ ((View.whole main_v3_1).slice (win0_5.rect t0_0)).set
    rw [View.set_slice_whole, Rect.mem_set_unit]
    intro a
    have h := (i a).isLt
    show 0 * _ ≤ _ ∧ (i a).val < 0 * _ + _
    rw [Nat.zero_mul, Nat.zero_add]
    exact ⟨Nat.zero_le _, h⟩

end Cert.ReferenceIdeal.Hand

end
-- ==== Proof.Equation.lean ====
/-
  The kernel's two results are the reference's, over the reals: the sum over 32 blocks of 1024 tokens is the sum over all
  32768 tokens, and both read the same gradient entry, the kernel from the reshaped array and the reference from its transpose.
-/
module

public import proofs.«01_k».proof.Proof.IdealArrays
public import proofs.«01_k».proof.Proof.ReferenceValue
public import proofs.«01_k».proof.Defs
public import Idealize.ShloMosaic.Lib.Claim

@[expose] public section

noncomputable section

namespace Cert.Proof

open Idealize.ShloMosaic Idealize.ShloMosaic.TcCoe Idealize.SL.Sem
open Finset (range)

/-- A sum over `n` blocks of 1024 is one sum. -/
theorem sum_blocks (f : ℕ → EReal) (n : ℕ) : ∑ k ∈ range n, ∑ x : Fin 1024, f (1024 * k + x.val) = ∑ y ∈ range (1024 * n), f y := by
  induction n with
  | zero => simp
  | succ n ih =>
    rw [Finset.sum_range_succ, ih, Nat.mul_succ, Finset.sum_range_add, ← Finset.sum_range (fun x => f (1024 * n + x))]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs hold the same arguments. -/
def Same : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable {m m'}

/-- They read the same `x` codes, -/
theorem codes_same (h : Same m m') (c : Dev Cert.KernelIdeal.nD) :
    Cert.ReferenceIdeal.Gen.V m' c Cert.ReferenceIdeal.main_arg0 = Cert.KernelIdeal.Gen.V m c Cert.KernelIdeal.main_arg0 :=
  (Cert.ReferenceIdeal.Gen.V_main_arg0 m' c).trans ((h c).1.trans (Cert.KernelIdeal.Gen.V_main_arg0 m c).symm)

/-- the same inverse scale of the gradient, -/
theorem inv_same (h : Same m m') (c : Dev Cert.KernelIdeal.nD) :
    Cert.ReferenceIdeal.Hand.word (F := Ideal) (Cert.ReferenceIdeal.Gen.V m' c Cert.ReferenceIdeal.main_arg4) = Cert.KernelIdeal.Hand.inv m c := by
  have e : Cert.KernelIdeal.Hand.inv m c = m (c, Proc.tc.devRef Cert.KernelIdeal.main_arg4) (ix1 0) := by
    unfold Cert.KernelIdeal.Hand.inv; entry_read; pointwise
  rw [e, Cert.ReferenceIdeal.Gen.V_main_arg4, (h c).2.2.2.2]
  refine congrArg (m _) (funext fun a => Fin.ext ?_)
  match a with
  | ⟨0, _⟩ => rfl

/-- the same product of the two scales, -/
theorem post_same (h : Same m m') (c : Dev Cert.KernelIdeal.nD) :
    Cert.ReferenceIdeal.Hand.word (F := Ideal) (Cert.ReferenceIdeal.Gen.V m' c Cert.ReferenceIdeal.main_v2) = Cert.KernelIdeal.Hand.post m c := by
  have e : Cert.KernelIdeal.Hand.post m c = HMul.hMul (α := EReal) (β := EReal) (γ := EReal) (m (c, Proc.tc.devRef Cert.KernelIdeal.main_arg1) (ix1 0)) (m (c, Proc.tc.devRef Cert.KernelIdeal.main_arg3) (ix1 0)) := by
    unfold Cert.KernelIdeal.Hand.post; entry_read; pointwise
  have e' : Cert.ReferenceIdeal.Hand.word (F := Ideal) (Cert.ReferenceIdeal.Gen.V m' c Cert.ReferenceIdeal.main_v2)
      = HMul.hMul (α := EReal) (β := EReal) (γ := EReal) (m' (c, Proc.tc.devRef Cert.ReferenceIdeal.main_arg1) (ix1 0)) (m' (c, Proc.tc.devRef Cert.ReferenceIdeal.main_arg3) (ix1 0)) := by
    entry_read; pointwise
    refine congr (congrArg _ (congrArg (m' _) (funext fun a => ?_))) (congrArg (m' _) (funext fun a => ?_)) <;>
    · match a with
      | ⟨0, _⟩ => rfl
  have h1 : m' (c, Proc.tc.devRef Cert.ReferenceIdeal.main_arg1) = m (c, Proc.tc.devRef Cert.KernelIdeal.main_arg1) := (h c).2.1
  have h3 : m' (c, Proc.tc.devRef Cert.ReferenceIdeal.main_arg3) = m (c, Proc.tc.devRef Cert.KernelIdeal.main_arg3) := (h c).2.2.2.1
  rw [e, e', h1, h3]

/-- and the same gradient entries. -/
theorem dy_same (h : Same m m') (c : Dev Cert.KernelIdeal.nD) (q : Fin 19584) (y : Fin 32768) :
    (Cert.ReferenceIdeal.Gen.V m' c Cert.ReferenceIdeal.main_v1 : Cert.ReferenceIdeal.S19584x32768.Idx → EReal) (ix2 q y) = Cert.KernelIdeal.Hand.dyAt m c y.val q.val := by
  have e : Cert.KernelIdeal.Hand.dyAt m c y.val q.val = (Cert.KernelIdeal.Gen.V m c Cert.KernelIdeal.main_v0 : Cert.KernelIdeal.S32768x19584.Idx → EReal) (ix2 y q) :=
    Cert.KernelIdeal.Hand.at2_eq _ (ix2 y q) rfl rfl
  rw [e]
  entry_read
  have h2 : m' (c, Proc.tc.devRef Cert.ReferenceIdeal.main_arg2) = m (c, Proc.tc.devRef Cert.KernelIdeal.main_arg2) := (h c).2.2.1
  rw [h2]
  refine transpose_apply _ _ _ (ix2 q y) (ix2 y q) fun b => ?_
  match b with
  | ⟨0, _⟩ => rfl
  | ⟨1, _⟩ => rfl

/-- So the codes are equal, -/
theorem codes_eq (h : Same m m') (c : Dev Cert.KernelIdeal.nD) : Cert.ReferenceIdeal.Hand.codesOf m' c = Cert.KernelIdeal.Hand.codesOf m c := by
  funext i
  unfold Cert.ReferenceIdeal.Hand.codesOf Cert.KernelIdeal.Hand.codesOf Cert.KernelIdeal.Hand.codeAt
  rw [Cert.ReferenceIdeal.Hand.pay1_apply, inv_same h]
  have e := dy_same h c (i 0) (i 1)
  rw [← eq_ix2 i] at e
  rw [e]
  rfl

/-- and so are the products. -/
theorem prod_eq (h : Same m m') (c : Dev Cert.KernelIdeal.nD) : Cert.ReferenceIdeal.Hand.prodOf m' c = Cert.KernelIdeal.Hand.prodOf m c := by
  funext i
  unfold Cert.ReferenceIdeal.Hand.prodOf Cert.KernelIdeal.Hand.prodOf
  rw [Cert.ReferenceIdeal.Hand.pay2_apply, inv_same h, post_same h]
  refine congrArg (· * Cert.KernelIdeal.Hand.post m c) ?_
  unfold Cert.KernelIdeal.Hand.term
  rw [sum_blocks (fun y => Cert.KernelIdeal.Hand.xtAt m c (i 0).val y * Cert.KernelIdeal.Hand.codeAt m c (i 1).val y) 32,
    Finset.sum_range (n := 1024 * 32)]
  refine Finset.sum_congr rfl fun y _ => ?_
  refine congr (congrArg _ ?_) ?_
  · rw [codes_same h]
    exact (Cert.KernelIdeal.Hand.at2_eq _ (ix2 (i 0) y) rfl rfl).symm
  · rw [dy_same h c (i 1) y]
    rfl

end Cert.Proof

end
-- ==== Proof.Largest.lean ====
/-
  Largest absolute values over the reals: an array is described by its upper bounds, so that a largest value taken chunk by
  chunk, block by block, is the largest value of the whole array.
-/
module

public import Idealize.ShloMosaic.Lib.Pipeline.Value
public import Idealize.ShloMosaic.Lib.VecWindow
public import Idealize.ShloMosaic.Lib.StableHlo
public import Idealize.ShloMosaic.PureOps.Ideal.Laws
public import Idealize.ShloMosaic.Lib.Pointwise.Tactic
public import Idealize.ShloMosaic.Lib.Pointwise

@[expose] public section

noncomputable section

namespace Cert.Largest

open Idealize.ShloMosaic

/-- The absolute value of an extended real. -/
def mag (v : EReal) : EReal := max v (-v)

/-- An absolute value is not negative. -/
theorem mag_nonneg (v : EReal) : 0 ≤ mag v := by
  unfold mag
  rcases le_total 0 v with h | h
  · exact le_max_of_le_left h
  · exact le_max_of_le_right (EReal.neg_nonneg.mpr h)

/-- Every entry of an array is at most `b`. -/
def AllLe {ι : Type} (a : ι → EReal) (b : EReal) : Prop := ∀ j, a j ≤ b

/-- A reshaped array has the same entries. -/
theorem allLe_shapeCast {s t : Shape} (x : s.Idx → EReal) (h : s.ShapeCasts t) (b : EReal) :
    AllLe (shapeCast t x h) b ↔ AllLe x b :=
  (Shape.reshapeEquiv h).forall_congr fun _ => Iff.rfl

theorem bot_bf16 : Ideal.ofBits .bf16 0xFF80#16 = ⊥ := by simp [Ideal.ofBits, Ideal.ieee]
theorem bot_f32 : Ideal.ofBits .f32 0xFF800000#32 = ⊥ := by simp [Ideal.ofBits, Ideal.ieee]

/-- The largest values along some axes, from minus infinity, are at most `b` where every entry is. -/
theorem allLe_reduction {s t : Shape} {axes : List (Fin s.rank)} (src : FVec Ideal s .bf16) (h : s.Reduces axes t)
    (hφ : FKind.Formats .bf16) (hacc : (0xFF80#16 : BitVec 16) = FKind.maximumf.neutral .bf16 hφ) (b : EReal) :
    AllLe (multiReduction .maximumf axes t src 0xFF80#16 h hφ hacc) b ↔ AllLe src b := by
  have e : ∀ j, multiReduction .maximumf axes t src 0xFF80#16 h hφ hacc j ≤ b ↔ ∀ i, h.drop i = j → src i ≤ b := fun j => by
    rw [multiReduction_maximumf_eq_fold]
    refine (Finset.fold_max_le (f := src) (b := (FloatOps.ofBits .bf16 0xFF80#16 : Ideal .bf16)) b).trans ?_
    constructor
    · exact fun g i hi => g.2 i (Finset.mem_filter.mpr ⟨Finset.mem_univ _, hi⟩)
    · exact fun g => ⟨le_of_eq_of_le bot_bf16 bot_le, fun i hi => g i (Finset.mem_filter.mp hi).2⟩
  exact ⟨fun g i => (e _).mp (g (h.drop i)) i rfl, fun g j => (e j).mpr fun i _ => g i⟩

/-- One step of the running maximum: bounded where what it was and the chunk's absolute values are. -/
theorem allLe_step {s u t : Shape} {axes : List (Fin u.rank)} (a : FVec Ideal t .bf16) (v : FVec Ideal s .bf16)
    (h1 : s.ShapeCasts s) (h2 : s.ShapeCasts u) (h : u.Reduces axes t)
    (hφ : FKind.Formats .bf16) (hacc : (0xFF80#16 : BitVec 16) = FKind.maximumf.neutral .bf16 hφ) (b : EReal) :
    AllLe (maximumf a (multiReduction .maximumf axes t (shapeCast u (absf (shapeCast s v h1)) h2) 0xFF80#16 h hφ hacc)) b
      ↔ AllLe a b ∧ AllLe (fun i => mag (v i)) b := by
  rw [shapeCast_self]
  have e : AllLe (maximumf a (multiReduction .maximumf axes t (shapeCast u (absf v) h2) 0xFF80#16 h hφ hacc)) b
      ↔ AllLe a b ∧ AllLe (multiReduction .maximumf axes t (shapeCast u (absf v) h2) 0xFF80#16 h hφ hacc) b :=
    ⟨fun g => ⟨fun j => (max_le_iff.mp (g j)).1, fun j => (max_le_iff.mp (g j)).2⟩, fun g j => max_le (g.1 j) (g.2 j)⟩
  rw [e, allLe_reduction, allLe_shapeCast]
  exact Iff.rfl

/-- The 128 columns of an array from column `o` on. -/
def slice {R W : ℕ} {α : Type} (hW : 0 < W) (x : (⟨2, ![R, W]⟩ : Shape).Idx → α) (o : ℕ) : (⟨2, ![R, 128]⟩ : Shape).Idx → α :=
  fun j => x (ix2 (j 0) ⟨(o + (j 1).val) % W, Nat.mod_lt _ hW⟩)

/-- The chunks of 128 columns hold every entry of the array. -/
theorem allLe_slices {R W n : ℕ} (hW : 0 < W) (hn : W = 128 * n) (x : (⟨2, ![R, W]⟩ : Shape).Idx → EReal) (b : EReal) :
    (∀ k < n, AllLe (fun i => mag (slice hW x (128 * k) i)) b) ↔ AllLe (fun i => mag (x i)) b := by
  constructor
  · intro g i
    have h1 : (i 1).val < W := (i 1).isLt
    have hk := g ((i 1).val / 128) (by omega) (ix2 (i 0) ⟨(i 1).val % 128, by omega⟩)
    refine le_of_eq_of_le (congrArg (fun z => mag (x z)) ?_) hk
    refine (eq_ix2 i).trans ?_
    congr 1
    refine Fin.ext ?_
    show (i 1).val = (128 * ((i 1).val / 128) + (i 1).val % 128) % W
    rw [Nat.div_add_mod, Nat.mod_eq_of_lt h1]
  · exact fun g k _ i => g _

/-- A running maximum over a list of chunks is bounded where its start and every chunk's absolute values are. -/
theorem allLe_foldl {ι κ : Type} (step : (ι → EReal) → ℕ → ι → EReal) (f : ℕ → κ → EReal) (b : EReal)
    (hs : ∀ a k, AllLe (step a k) b ↔ AllLe a b ∧ AllLe (f k) b) (L : List ℕ) (a : ι → EReal) :
    AllLe (L.foldl step a) b ↔ AllLe a b ∧ ∀ k ∈ L, AllLe (f k) b := by
  induction L generalizing a with
  | nil => simp
  | cons k L ih => rw [List.foldl_cons, ih, hs, List.forall_mem_cons, and_assoc]

/-- The host's largest value of a whole array, from minus infinity, is at most `b` where every entry is. -/
theorem reduce_le {s t u : Shape} {axes : List (Fin s.rank)} (x : FVec Ideal s .f32) (h : s.ReducesTo axes t) (hu : 0 < u.numel)
    (j : t.Idx) (hj : ∀ i, h.drop i = j) (b : EReal) :
    Host.reduce FloatOps.maximumf x (constant (F := Ideal) u .f32 0xFF800000#32) h hu j ≤ b ↔ AllLe x b := by
  rw [Host.reduce_eq_fold]
  refine (Finset.fold_max_le (f := x) (b := (FloatOps.ofBits .f32 0xFF800000#32 : Ideal .f32)) b).trans ?_
  constructor
  · exact fun g i => g.2 i (Finset.mem_filter.mpr ⟨Finset.mem_univ _, hj i⟩)
  · exact fun g => ⟨le_of_eq_of_le bot_f32 bot_le, fun i _ => g i⟩

/-- Two values with the same upper bounds are equal. -/
theorem eq_of_le_iff {x y : EReal} (h : ∀ b, x ≤ b ↔ y ≤ b) : x = y :=
  le_antisymm ((h y).mpr le_rfl) ((h x).mp le_rfl)

end Cert.Largest

end

end
-- ==== Proof.XBlock.lean ====
/-
  The largest absolute values of x, block by block: what a block of the call `amax_x` leaves of the running maximum, and what
  its upper bounds are.
-/
module

public import proofs.«01_k».proof.Proof.Largest
public import proofs.«01_k».proof.Proof.Gen.KernelXIdeal.Frame

@[expose] public section

set_option maxRecDepth 16384

noncomputable section

namespace Cert.KernelXIdeal.Hand

open Cert.KernelXIdeal Cert.KernelXIdeal.Gen Cert.Largest
open Idealize.ShloMosaic Idealize.ShloMosaic.TcCoe Idealize.ShloMosaic.Tactic

theorem hz : (![0, 0] : Fin 2 → Nat) = fun _ => 0 := by funext k; fin_cases k <;> rfl

/-- The running maximum after the chunks of a block, from what it was. -/
def overBlock (x0 : Vec Ideal S1024x1664 .bf16) (a : Vec Ideal S16x128 .bf16) : Vec Ideal S16x128 .bf16 :=
  (List.range 13).foldl (fun a k => k0_pay1 (F := Ideal) a (slice (by decide) x0 (128 * k))) a

/-- A chunk read from a block is its 128 columns. -/
theorem readAt_slice (arg1 : Memref sig .tc .vmem S1024x1664 .bf16) (harg1 : arg1.IsWhole) (x0 : Vec Ideal S1024x1664 .bf16) (o : ℕ)
    (inb : ∀ a, (![0, o] : Fin 2 → Nat) a + S1024x128.size a ≤ S1024x1664.size a) :
    View.readAt (Elt Ideal) arg1.view (Rect.unit (s := S1024x1664) ![0, o] S1024x128.size inb).toLoadRect (harg1.unread x0)
      = slice (by decide) x0 o := by
  funext j
  rw [View.readAt_apply, harg1.read_unread]
  refine congrArg x0 (funext fun a => Fin.ext ?_)
  have h1 : (j 1).val < 128 := (j 1).isLt
  have h2 : o + 128 ≤ 1664 := inb 1
  fin_cases a
  · exact (Nat.zero_add _).trans (by show 1 * _ = _; exact Nat.one_mul _)
  · show o + 1 * (j 1).val = (o + (j 1).val) % 1664
    rw [Nat.one_mul, Nat.mod_eq_of_lt (by omega)]

theorem out_B (c : Dev nD) (i : grid0.Coords) (arg1 : Memref sig .tc .vmem S1024x1664 .bf16) (harg1 : arg1.IsWhole) (arg2 : Memref sig .tc .vmem S16x128 .bf16) (harg2 : arg2.IsWhole) (hc0 : ¬cond0_0 i)
    (x0 : Vec Ideal S1024x1664 .bf16) (xo1 : Vec Ideal S16x128 .bf16) :
    out0_B_1 c i arg1 harg1 arg2 harg2 hc0 x0 xo1 = overBlock x0 xo1 := by
  unfold out0_B_1
  rw [View.read_writes_eq_canon _ _ _ (cover0_B_1 c i arg1 harg1 arg2 harg2 hc0 x0 xo1)]
  unfold kernelRun0_B
  dsimp only
  sl_unfold_words
  rw [View.canon_unit_zero hz]
  repeat rw [readAt_slice arg1 harg1 x0]
  simp only [View.readAt_eq_ld, harg2.read_unread, View.ld_unit_zero (S := S16x128) hz]
  refine Eq.trans ?_ (congrArg (overBlock x0) (shapeCast_self xo1 shapeCasts_S16x128_S16x128))
  rfl

theorem out_A (c : Dev nD) (i : grid0.Coords) (arg1 : Memref sig .tc .vmem S1024x1664 .bf16) (harg1 : arg1.IsWhole) (arg2 : Memref sig .tc .vmem S16x128 .bf16) (harg2 : arg2.IsWhole) (hc0 : cond0_0 i)
    (x0 : Vec Ideal S1024x1664 .bf16) :
    out0_A_1 c i arg1 harg1 arg2 harg2 hc0 x0 = overBlock x0 (k0_pay2 (F := Ideal)) := by
  unfold out0_A_1
  rw [View.read_writes_eq_canon _ _ _ (cover0_A_1 c i arg1 harg1 arg2 harg2 hc0 x0)]
  unfold kernelRun0_A
  dsimp only
  sl_unfold_words
  rw [View.canon_cons_unit_zero (S := S16x128) hz]
  repeat rw [readAt_slice arg1 harg1 x0]
  simp only [View.readCov_unit_zero (S := S16x128) _ hz]
  refine Eq.trans ?_ (congrArg (overBlock x0) (shapeCast_self (k0_pay2 (F := Ideal)) shapeCasts_S16x128_S16x128))
  rfl

/-- The upper bounds of the running maximum after a block: those of what it was and of the block's absolute values. -/
theorem allLe_overBlock (x0 : Vec Ideal S1024x1664 .bf16) (a : Vec Ideal S16x128 .bf16) (b : EReal) :
    AllLe (overBlock x0 a) b ↔ AllLe a b ∧ AllLe (fun i => mag (x0 i)) b := by
  unfold overBlock
  rw [allLe_foldl _ (fun k i => mag (slice (by decide : 0 < 1664) x0 (128 * k) i)) b fun a k => by
      unfold k0_pay1; exact allLe_step a _ _ _ _ _ _ b,
    ← allLe_slices (n := 13) (by decide) (by decide) x0 b]
  simp only [List.mem_range]

end Cert.KernelXIdeal.Hand

end

end
-- ==== Proof.Scale.lean ====
/-
  The power-of-two scale of a largest absolute value, as the programs compute it on the host from a table of the powers of two:
  the exponent `frexp` gives, and two to that exponent.
-/
module

public import proofs.«01_k».proof.Proof.Largest

@[expose] public section

noncomputable section

namespace Cert.Scale

open Idealize.ShloMosaic

/-- The shapes of a scalar, of an array of one element and of the table of the powers of two. -/
abbrev S0 : Shape := ⟨0, ![]⟩
abbrev S1 : Shape := ⟨1, ![1]⟩
abbrev ST : Shape := ⟨1, ![277]⟩

theorem bcast01 : S0.BroadcastsInDim S1 (![] : Fin 0 → Fin S1.rank) := by decide
theorem bcast0T : S0.BroadcastsInDim ST (![] : Fin 0 → Fin ST.rank) := by decide
theorem bcast1T : S1.BroadcastsInDim ST (![0] : Fin 1 → Fin ST.rank) := by decide
theorem reducesT : ST.ReducesTo [0] S0 := by decide
theorem pos0 : 0 < S0.numel := by decide
theorem casts01 : S0.ShapeCasts S1 := by decide

/-- The exponent of the scale of the largest absolute value `a`: with `y = a·w`, the number of powers of two in the table `T` that
    are at most `y`, less 149; 0 where `y` is not positive or not finite, and 0 where `a` is 0. -/
def exponent (T : FVec Ideal ST .f32) (w : BitVec 32) (a : FVec Ideal S1 .f32) : IVec S1 32 :=
  select (cmpf .oeq a (broadcastInDim S1 ![] bcast01 (constant S0 .f32 0x00000000#32)))
    (broadcastInDim S1 ![] bcast01 (id (constantI S0 32 0#32)))
    (select
      (andi
        (cmpf .ogt (mulf a (broadcastInDim S1 ![] bcast01 (constant S0 .f32 w))) (broadcastInDim S1 ![] bcast01 (constant S0 .f32 0x00000000#32)))
        (cmpf .olt (mulf a (broadcastInDim S1 ![] bcast01 (constant S0 .f32 w))) (broadcastInDim S1 ![] bcast01 (constant S0 .f32 0x7F800000#32))))
      (subi
        (shapeCast _ (Host.reduce IntOp.addi
          (extui 32 (cmpf .oge (broadcastInDim ST ![0] bcast1T (mulf a (broadcastInDim S1 ![] bcast01 (constant S0 .f32 w)))) T) (by decide))
          (constantI S0 32 0#32) reducesT pos0) casts01)
        (broadcastInDim S1 ![] bcast01 (constantI S0 32 149#32)))
      (broadcastInDim S1 ![] bcast01 (id (constantI S0 32 0#32))))

/-- Two to an exponent, looked up in the table `T`. -/
def twoTo (T : FVec Ideal ST .f32) (e : IVec S1 32) : FVec Ideal S1 .f32 :=
  select (cmpi .sgt e (broadcastInDim S1 ![] bcast01 (constantI S0 32 127#32)))
    (broadcastInDim S1 ![] bcast01 (id (constant S0 .f32 0x7F800000#32)))
    (shapeCast _ (Host.reduce FloatOps.maximumf
      (select (cmpi .eq (addi (broadcastInDim ST ![] bcast0T (constantI S0 32 4294967147#32)) (iotaInDim ST 32 0)) (broadcastInDim ST ![0] bcast1T e))
        T (broadcastInDim ST ![] bcast0T (id (constant S0 .f32 0x00000000#32))))
      (constant S0 .f32 0xFF800000#32) reducesT pos0) casts01)

end Cert.Scale

end

end
-- ==== Proof.XScale.lean ====
/-
  The host lines between the two calls of x: the scale and its inverse are those of the largest entry of the running maximum.
-/
module

public import proofs.«01_k».proof.Proof.Scale
public import proofs.«01_k».proof.Proof.Gen.KernelXIdeal.Frame
public import Idealize.ShloMosaic.Lib.StableHlo.Run

@[expose] public section

set_option maxRecDepth 8192

noncomputable section

namespace Cert.KernelXIdeal.Hand

open Cert.KernelXIdeal Cert.KernelXIdeal.Gen Cert.Scale
open Idealize.ShloMosaic Idealize.ShloMosaic.TcCoe Idealize.ShloMosaic.Tactic Idealize.ShloMosaic.StableHlo

/-- The largest entry of the running maximum. -/
def largest (p : Vec Ideal S16x128 .bf16) : FVec Ideal S1 .f32 :=
  shapeCast _ (Host.reduce FloatOps.maximumf (extf (F := Ideal) .f32 p bitsLt_bf16_f32) (constant (F := Ideal) S_ .f32 0xFF800000#32) reducesTo_S16x128_S_d0_1 h_S_) shapeCasts_S_S1

variable (U : Valuation τ sig (Elt Ideal))

/-- The buffers after the host lines between the calls, from those before. -/
abbrev afterHost : Valuation τ sig (Elt Ideal) :=
  after hostOps1_11 (after hostOps1_10 (after hostOps1_9 (after hostOps1_8 (after hostOps1_7 (after hostOps1_6 (after hostOps1_5 (after hostOps1_4
    (after hostOps1_3 (after hostOps1_2 (after hostOps1_1 (after hostOps1 U)))))))))))

set_option maxHeartbeats 30000000 in
theorem scale_afterHost : afterHost U (Proc.devRef .tc main_v33)
    = twoTo (U (Proc.devRef .tc main_cst)) (exponent (U (Proc.devRef .tc main_cst)) 0x3B124925#32 (largest (U (Proc.devRef .tc main_v1)))) := by
  simp only [afterHost, hostOps1, hostOps1_1, hostOps1_2, hostOps1_3, hostOps1_4, hostOps1_5, hostOps1_6, hostOps1_7, hostOps1_8, hostOps1_9, hostOps1_10, hostOps1_11,
    TRef.ternary, TRef.unary, TRef.toBuf, TRef.ofBuf, cast_eq]
  after_results_simp <;> rfl

set_option maxHeartbeats 30000000 in
theorem inverse_afterHost : afterHost U (Proc.devRef .tc main_v45)
    = twoTo (U (Proc.devRef .tc main_cst)) (negi (exponent (U (Proc.devRef .tc main_cst)) 0x3B124925#32 (largest (U (Proc.devRef .tc main_v1))))) := by
  simp only [afterHost, hostOps1, hostOps1_1, hostOps1_2, hostOps1_3, hostOps1_4, hostOps1_5, hostOps1_6, hostOps1_7, hostOps1_8, hostOps1_9, hostOps1_10, hostOps1_11,
    TRef.ternary, TRef.unary, TRef.toBuf, TRef.ofBuf, cast_eq]
  after_results_simp <;> rfl

end Cert.KernelXIdeal.Hand

end

end
-- ==== Proof.Amax.lean ====
/-
  The largest absolute value of an array as one number, and the host's maximum that equals it.
-/
module

public import proofs.«01_k».proof.Proof.Largest
public import proofs.«01_k».proof.Proof.Scale

@[expose] public section

noncomputable section

namespace Cert.Largest

open Idealize.ShloMosaic Cert.Scale

/-- The largest absolute value of an array. -/
def amax {ι : Type} (x : ι → EReal) : EReal := ⨆ i, mag (x i)

/-- The upper bounds of the largest absolute value. -/
theorem amax_le {ι : Type} (x : ι → EReal) (b : EReal) : amax x ≤ b ↔ AllLe (fun i => mag (x i)) b := iSup_le_iff

/-- A reshaped array has the same largest absolute value. -/
theorem amax_shapeCast {s t : Shape} (x : s.Idx → EReal) (h : s.ShapeCasts t) : amax (shapeCast t x h) = amax x :=
  eq_of_le_iff fun b => by
    rw [amax_le, amax_le]
    exact allLe_shapeCast (fun i => mag (x i)) h b

/-- The host's largest value of an array is the number with the same upper bounds. -/
theorem host_max {s u : Shape} {axes : List (Fin s.rank)} (x : FVec Ideal s .f32) (h : s.ReducesTo axes S0) (hu : 0 < u.numel)
    (hc : S0.ShapeCasts S1) (c : EReal) (hx : ∀ b, AllLe x b ↔ c ≤ b) :
    shapeCast S1 (Host.reduce FloatOps.maximumf x (constant (F := Ideal) u .f32 0xFF800000#32) h hu) hc = fun _ => c := by
  funext j
  refine eq_of_le_iff fun b => ?_
  rw [← hx]
  exact reduce_le x h hu _ (fun _ => funext fun a => a.elim0) b

/-- The host's largest absolute value of an array of bfloat16 numbers. -/
theorem host_amax {s u : Shape} {axes : List (Fin s.rank)} (x : FVec Ideal s .bf16) (hb : FTy.bits .bf16 < FTy.bits .f32) (h : s.ReducesTo axes S0) (hu : 0 < u.numel)
    (hc : S0.ShapeCasts S1) :
    shapeCast S1 (Host.reduce FloatOps.maximumf (Host.absf (extf (F := Ideal) .f32 x hb)) (constant (F := Ideal) u .f32 0xFF800000#32) h hu) hc
      = fun _ => amax x :=
  host_max _ h hu hc _ fun b => (amax_le x b).symm

end Cert.Largest

end

end
-- ==== Proof.XMax.lean ====
/-
  The largest absolute value of x: what the call `amax_x` leaves in its array of partial maxima, and that the scale and its
  inverse are those of the largest absolute value of x.
-/
module

public import proofs.«01_k».proof.Proof.XBlock
public import proofs.«01_k».proof.Proof.XScale
public import proofs.«01_k».proof.Proof.Amax

@[expose] public section

noncomputable section

namespace Cert.KernelXIdeal.Hand

open Cert.KernelXIdeal Cert.KernelXIdeal.Gen Cert.Largest Cert.Scale
open Idealize.ShloMosaic Idealize.ShloMosaic.TcCoe Idealize.ShloMosaic.Tactic
open Idealize.ShloMosaic.Pipeline (Dat)

section
variable (V : (c : Dev nD) → (b : Ref sig .tc) → Buf (Elt Ideal) ((c : Thread nD τ).loc b))

/-- The absolute values of the block that point `t` of the first call reads. -/
def blockMag (c : Dev nD) (t : Fin cfg0.N) : S1024x1664.Idx → EReal := fun j => mag (iblk0 (F := Ideal) V c 0 t j)

/-- The running maximum starts at zero. -/
theorem allLe_start (b : EReal) : AllLe (k0_pay2 (F := Ideal)) b ↔ 0 ≤ b := by
  have e : ∀ j, k0_pay2 (F := Ideal) j = 0 := fun j => by
    show Ideal.ofBits .bf16 0x0000#16 = 0
    simp [Ideal.ofBits, Ideal.ieee]
  constructor
  · exact fun g => le_of_eq_of_le (e (ix2 0 0)).symm (g (ix2 0 0))
  · exact fun g j => le_of_eq_of_le (e j) g

/-- The upper bounds of the running maximum after each point: those of zero and of the blocks so far. -/
theorem allLe_outsAt (c : Dev nD) (b : EReal) (n : ℕ) (hn : n < cfg0.N) :
    AllLe (outsAt0 V c n hn) b ↔ 0 ≤ b ∧ ∀ t : Fin cfg0.N, t.val ≤ n → AllLe (blockMag V c t) b := by
  induction n with
  | zero =>
    rw [outsAt0_A V c ⟨0, hn⟩ rfl, out_A, allLe_overBlock, allLe_start]
    refine and_congr_right fun _ => ⟨fun g t ht => ?_, fun g => g ⟨0, hn⟩ le_rfl⟩
    obtain rfl : t = ⟨0, hn⟩ := Fin.ext (Nat.le_zero.mp ht)
    exact g
  | succ n ih =>
    have hN : n + 1 < 32 := lt_of_lt_of_eq hn N_0
    have hs : ¬ (n + 1) % 32 = 0 := by omega
    rw [outsAt0_B V c ⟨n + 1, hn⟩ hs, out_B, allLe_overBlock]
    rw [show outsAt0 V c ((⟨n + 1, hn⟩ : Fin cfg0.N).val - 1) _ = outsAt0 V c n (Nat.lt_of_succ_lt hn) from rfl,
      ih (Nat.lt_of_succ_lt hn), and_assoc]
    refine and_congr_right fun _ => ⟨fun g t ht => ?_, fun g => ⟨fun t ht => g t (by omega), g ⟨n + 1, hn⟩ le_rfl⟩⟩
    rcases Nat.lt_or_ge n t.val with h | h
    · obtain rfl : t = ⟨n + 1, hn⟩ := Fin.ext (le_antisymm ht h)
      exact g.2
    · exact g.1 t h

theorem coords0_0 (t : Fin cfg0.N) : (grid0.coords t 0).val = t.val := by
  have ht : t.val < 32 := lt_of_lt_of_eq t.isLt N_0
  have e : (grid0.coords t 0).val = t.val / 1 % 32 := Pipeline.Grid.coords_val t 0 (by decide) rfl
  omega

theorem idx0_0 (t : Fin cfg0.N) : cc0_transform_0 (grid0.coords t) 0 = t.val := by
  have ht : t.val < 32 := lt_of_lt_of_eq t.isLt N_0
  show (BitVec.ofNat 32 (grid0.coords t 0).val).toNat = _
  rw [coords0_0, BitVec.toNat_ofNat]
  exact Nat.mod_eq_of_lt (by omega)

/-- The blocks of all points hold every row of x. -/
theorem allLe_blocks (c : Dev nD) (b : EReal) :
    (∀ t : Fin cfg0.N, AllLe (blockMag V c t) b) ↔ AllLe (fun i : S32768x1664.Idx => mag (V c main_v0 i)) b := by
  constructor
  · intro g i
    have h0 : (i 0).val < 32768 := (i 0).isLt
    have hN : (i 0).val / 1024 < cfg0.N := by show _ < 32; omega
    refine le_of_eq_of_le (congrArg (fun z => mag (V c main_v0 z)) ?_) (g ⟨(i 0).val / 1024, hN⟩ (ix2 ⟨(i 0).val % 1024, by omega⟩ (i 1)))
    refine funext fun a => Fin.ext ?_
    refine Eq.trans ?_ (win0_0.rect_emb_val ⟨(i 0).val / 1024, hN⟩ (ix2 ⟨(i 0).val % 1024, by omega⟩ (i 1)) a).symm
    match a with
    | ⟨0, _⟩ =>
      show _ = cc0_transform_0 (grid0.coords _) 0 * 1024 + (i 0).val % 1024
      rw [idx0_0]
      show (i 0).val = (i 0).val / 1024 * 1024 + (i 0).val % 1024
      omega
    | ⟨1, _⟩ =>
      show (i 1).val = 0 * 1664 + (i 1).val
      omega
  · exact fun g t j => g _

/-- The last point of the first call. -/
abbrev t31 : Fin cfg0.N := ⟨31, by decide⟩

/-- The array of partial maxima at the end is the running maximum after the last point. -/
theorem arr_max (c : Dev nD) : (dat0 V c).arrAt 1 cfg0.N = outsAt0 V c 31 (by decide) := by
  refine (dat0 V c).arrAt_eq_of_cover 1 (outsAt0 V c 31 (by decide)) (fun t hf => ?_) (fun i => ?_)
  · have ht : t.val < 32 := lt_of_lt_of_eq t.isLt N_0
    have h31 : t.val % 32 = 31 := (flush0_1 t).mp hf
    obtain rfl : t = t31 := Fin.ext (by show t.val = 31; omega)
    funext y
    refine congrArg (outsAt0 V c 31 (by decide)) (funext fun a => Fin.ext ?_)
    refine Eq.trans ?_ (win0_1.rect_emb_val t31 y a).symm
    match a with
    | ⟨0, _⟩ => show (y 0).val = 0 * 16 + (y 0).val; omega
    | ⟨1, _⟩ => show (y 1).val = 0 * 128 + (y 1).val; omega
  · refine ⟨t31, (flush0_1 _).mpr rfl, ?_⟩
    show i ∈ ((View.whole main_v1).slice (win0_1.rect t31)).set
    rw [View.set_slice_whole, Rect.mem_set_unit]
    intro a
    have h := (i a).isLt
    match a with
    | ⟨0, _⟩ => exact ⟨by show 0 * 16 ≤ _; omega, by show (i 0).val < 0 * 16 + 16; have : (i 0).val < 16 := (i 0).isLt; omega⟩
    | ⟨1, _⟩ => exact ⟨by show 0 * 128 ≤ _; omega, by show (i 1).val < 0 * 128 + 128; have : (i 1).val < 128 := (i 1).isLt; omega⟩

/-- The upper bounds of the partial maxima: those of the absolute values of x. -/
theorem allLe_partial (c : Dev nD) (b : EReal) :
    AllLe (outsAt0 V c 31 (by decide)) b ↔ AllLe (fun i : S32768x1664.Idx => mag (V c main_v0 i)) b := by
  rw [allLe_outsAt, ← allLe_blocks]
  constructor
  · exact fun g t => g.2 t (by have := lt_of_lt_of_eq t.isLt N_0; omega)
  · exact fun g => ⟨le_trans (mag_nonneg _) (g ⟨0, by decide⟩ (ix2 0 0)), fun t _ => g t⟩
end

/-- The host's largest entry of an array of partial maxima is the number with the same upper bounds. -/
theorem largest_of (p : Vec Ideal S16x128 .bf16) (a : EReal) (h : ∀ b, AllLe p b ↔ a ≤ b) : largest p = fun _ => a :=
  host_max _ _ _ _ a h

/-- The largest of the partial maxima is the largest absolute value of the reshaped x. -/
theorem largest_arr (V : (c : Dev nD) → (b : Ref sig .tc) → Buf (Elt Ideal) ((c : Thread nD τ).loc b)) (c : Dev nD) :
    largest ((dat0 V c).arrAt 1 cfg0.N) = fun _ => amax (fun i : S32768x1664.Idx => V c main_v0 i) := by
  rw [arr_max]
  exact largest_of _ _ fun b => (allLe_partial V c b).trans (amax_le _ b).symm

end Cert.KernelXIdeal.Hand

end

end
-- ==== Proof.XQuant.lean ====
/-
  The codes of x: what the call `quant_x` leaves in its array, entry by entry.
-/
module

public import proofs.«01_k».proof.Proof.Gen.KernelXIdeal.Frame
public import Idealize.ShloMosaic.Lib.Pipeline.Value
public import Idealize.ShloMosaic.Lib.VecWindow
public import Idealize.ShloMosaic.Lib.Pointwise.Tactic
public import Idealize.ShloMosaic.Lib.Pointwise

@[expose] public section

set_option maxHeartbeats 800000

noncomputable section

namespace Cert.KernelXIdeal.Hand

open Cert.KernelXIdeal Cert.KernelXIdeal.Gen
open Idealize.ShloMosaic Idealize.ShloMosaic.TcCoe Idealize.ShloMosaic.Tactic
open Idealize.ShloMosaic.Pipeline (Dat)

/-- The one word of an array of one element. -/
abbrev word (X : S1.Idx → EReal) : EReal := X fun a => ⟨0, by fin_cases a; decide⟩

/-- Clipping to the largest finite `f8e4m3` number, 448, on either side. -/
def clip (v : EReal) : EReal := min (Ideal.ofBits .f32 0x43E00000#32) (max (Ideal.ofBits .f32 0xC3E00000#32) v)

theorem readAt_word (v : View sig .tc .smem S1 .f32) (f : v.ty.Contents (Elt Ideal)) (h) :
    View.readAt (Elt Ideal) v (Rect.unit (s := S1) ![0] S1.size inb_S1_S1_0).toLoadRect f (Shape.Idx.first h) = word (v.read (Elt Ideal) f) := by
  rw [View.readAt_apply]
  exact congrArg (v.read (Elt Ideal) f) (funext fun a => by fin_cases a; rfl)

theorem pay_congr {a a' : Vec Ideal S1024x1664 .bf16} {b b' : EReal} (ha : a = a') (hb : b = b') :
    k1_pay1 (F := Ideal) a b = k1_pay1 (F := Ideal) a' b' := by subst ha hb; rfl

/-- What the body leaves in its block of codes. -/
theorem out_codes (c : Dev nD) (i : grid1.Coords) (arg1 : Memref sig .tc .smem S1 .f32) (harg1 : arg1.IsWhole) (arg2 : Memref sig .tc .vmem S1024x1664 .bf16) (harg2 : arg2.IsWhole) (arg3 : Memref sig .tc .vmem S1664x1024 .fp8e4m3) (harg3 : arg3.IsWhole)
    (x0 : Vec Ideal S1 .f32) (x1 : Vec Ideal S1024x1664 .bf16) :
    out1_A_2 c i arg1 harg1 arg2 harg2 arg3 harg3 x0 x1 = k1_pay1 (F := Ideal) x1 (word x0) := by
  unfold out1_A_2
  exact (View.read_writes_full _ _ inb_S1664x1024_S1664x1024_0_0 _ _).trans
    (pay_congr ((View.readAt_full _ _ _).trans (harg2.read_unread _)) ((readAt_word _ _ _).trans (congrArg word (harg1.read_unread _))))

/-- One code: the entry of the transposed block times the inverse scale, clipped. -/
theorem pay_apply (X : Vec Ideal S1024x1664 .bf16) (w : EReal) (j : S1664x1024.Idx) : k1_pay1 (F := Ideal) X w j = clip (X (ix2 (j 1) (j 0)) * w) := by
  unfold k1_pay1 clip
  pointwise

variable (V : (c : Dev nD) → (b : Ref sig .tc) → Buf (Elt Ideal) ((c : Thread nD τ).loc b))

/-- The codes: each entry of the transposed x times the inverse scale, clipped. -/
def codes (X : S32768x1664.Idx → EReal) (w : EReal) : S1664x32768.Idx → EReal := fun j => clip (X (ix2 (j 1) (j 0)) * w)
/-- The codes of what the second call reads. -/
def codesOf (c : Dev nD) : S1664x32768.Idx → EReal := codes (V c main_v0) (word (V c main_v45))

theorem coords1_0 (t : Fin cfg1.N) : (grid1.coords t 0).val = t.val := by
  have ht : t.val < 32 := lt_of_lt_of_eq t.isLt N_1
  have e : (grid1.coords t 0).val = t.val / 1 % 32 := Pipeline.Grid.coords_val t 0 (by decide) rfl
  omega

theorem ofNat_coords (t : Fin cfg1.N) : (BitVec.ofNat 32 (grid1.coords t 0).val).toNat = t.val := by
  have ht : t.val < 32 := lt_of_lt_of_eq t.isLt N_1
  rw [coords1_0, BitVec.toNat_ofNat]
  exact Nat.mod_eq_of_lt (by omega)

theorem idx1_1 (t : Fin cfg1.N) : cc1_transform_1 (grid1.coords t) 0 = t.val := ofNat_coords t
theorem idx1_2 (t : Fin cfg1.N) : cc1_transform_2 (grid1.coords t) 1 = t.val := ofNat_coords t

/-- The inverse scale is the same at every point. -/
theorem blk_inv (c : Dev nD) (t : Fin cfg1.N) : word (iblk1 (F := Ideal) V c 0 t) = word (V c main_v45) :=
  congrArg (V c main_v45) (funext fun a => Fin.ext (by
    refine (win1_0.rect_emb_val t _ a).trans ?_
    match a with
    | ⟨0, _⟩ => rfl))

/-- The block of x at point `t`: its 1024 rows from row `1024·t` on. -/
theorem blk_x (c : Dev nD) (t : Fin cfg1.N) (j : S1024x1664.Idx) (i : S32768x1664.Idx) (h0 : (i 0).val = t.val * 1024 + (j 0).val) (h1 : (i 1).val = (j 1).val) :
    iblk1 (F := Ideal) V c 1 t j = V c main_v0 i := by
  refine congrArg (V c main_v0) (funext fun a => Fin.ext ?_)
  refine (win1_1.rect_emb_val t j a).trans ?_
  match a with
  | ⟨0, _⟩ => show cc1_transform_1 (grid1.coords t) 0 * 1024 + (j 0).val = _; rw [idx1_1]; exact h0.symm
  | ⟨1, _⟩ => show 0 * 1664 + (j 1).val = (i 1).val; omega

/-- The array of codes at the end. -/
theorem arr_codes (c : Dev nD) : (dat1 V c).arrAt 2 cfg1.N = codesOf V c := by
  refine (dat1 V c).arrAt_eq_of_cover 2 (codesOf V c) (fun t hf => ?_) (fun i => ?_)
  · have e : (dat1 V c).flushed 2 t = k1_pay1 (F := Ideal) (iblk1 (F := Ideal) V c 1 t) (word (iblk1 (F := Ideal) V c 0 t)) := by
      refine Eq.trans ?_ (out_codes c (grid1.coords t) (ms1_0 t) (hs1_0 t) (ms1_1 t) (hs1_1 t) (ms1_2 t) (hs1_2 t) (iblk1 V c 0 t) (iblk1 V c 1 t))
      exact (after1_2 V c t)
    rw [e]
    funext y
    let j : S1664x1024.Idx := y
    refine (pay_apply _ _ j).trans ?_
    let i : S1664x32768.Idx := ((cfg1.win 2).blk t).view.emb y
    have v : ∀ a, (i a).val = _ := fun a => win1_2.rect_emb_val t y a
    have h0 : (i 0).val = (j 0).val := (v 0).trans (by show 0 * 1664 + (j 0).val = _; omega)
    have h1 : (i 1).val = t.val * 1024 + (j 1).val := (v 1).trans (by show cc1_transform_2 (grid1.coords t) 1 * 1024 + (j 1).val = _; rw [idx1_2])
    show _ = codesOf V c i
    unfold codesOf codes
    rw [blk_inv, blk_x V c t (ix2 (j 1) (j 0)) (ix2 (i 1) (i 0)) h1 h0]
  · have h1 : (i 1).val < 32768 := (i 1).isLt
    have h0 : (i 0).val < 1664 := (i 0).isLt
    have hN : (i 1).val / 1024 < cfg1.N := by show _ < 32; omega
    refine ⟨⟨(i 1).val / 1024, hN⟩, flush1_2 _, ?_⟩
    show i ∈ ((View.whole main_v46).slice (win1_2.rect (⟨(i 1).val / 1024, hN⟩ : Fin cfg1.N))).set
    rw [View.set_slice_whole, Rect.mem_set_unit]
    intro a
    match a with
    | ⟨0, _⟩ => exact ⟨by show 0 * 1664 ≤ _; omega, by show (i 0).val < 0 * 1664 + 1664; omega⟩
    | ⟨1, _⟩ =>
      have e := idx1_2 (⟨(i 1).val / 1024, hN⟩ : Fin cfg1.N)
      constructor
      · show cc1_transform_2 (grid1.coords _) 1 * 1024 ≤ (i 1).val
        rw [e]; show (i 1).val / 1024 * 1024 ≤ _; omega
      · show (i 1).val < cc1_transform_2 (grid1.coords _) 1 * 1024 + 1024
        rw [e]; show _ < (i 1).val / 1024 * 1024 + 1024; omega

end Cert.KernelXIdeal.Hand

end

end
-- ==== Proof.XRun.lean ====
/-
  The two calls of x over the reals: what the program leaves in its three results.
-/
module

public import proofs.«01_k».proof.Proof.XMax
public import proofs.«01_k».proof.Proof.XQuant

@[expose] public section

set_option maxRecDepth 8192
set_option maxHeartbeats 800000

noncomputable section

namespace Cert.KernelXIdeal.Hand

open Cert.KernelXIdeal Cert.KernelXIdeal.Gen Cert.Largest Cert.Scale
open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The table of the powers of two. -/
abbrev table : FVec Ideal ST .f32 := fun i => FloatOps.ofBits .f32 (lit0 (S277.rowMajor i))

/-- x as the calls read it: 32768 rows. -/
abbrev rows (c : Dev nD) : S32768x1664.Idx → EReal := shapeCast S32768x1664 (m ((c : Thread nD τ).loc main_arg0)) shapeCasts_S4x8192x1664_S32768x1664

theorem W1_rows (c : Dev nD) : W1 m ρ c (Proc.devRef .tc main_v0) = rows m c := by
  simp only [W1, hostOps0, TRef.ternary, TRef.unary, TRef.toBuf, TRef.ofBuf, cast_eq]
  after_results_simp <;> rfl

theorem W1_table (c : Dev nD) : W1 m ρ c (Proc.devRef .tc main_cst) = table := by
  simp only [W1, hostOps0, TRef.ternary, TRef.unary, TRef.toBuf, TRef.ofBuf, cast_eq]
  after_results_simp <;> rfl

theorem W2_table (c : Dev nD) : W2 m ρ c (Proc.devRef .tc main_cst) = table :=
  (W2_of_ne m ρ c main_cst (by decide)).trans (W1_table m ρ c)

/-- The largest of the partial maxima is the largest absolute value of x. -/
theorem W2_largest (c : Dev nD) : largest (W2 m ρ c (Proc.devRef .tc main_v1)) = fun _ => amax (rows m c) :=
  (congrArg largest (W2_arr m ρ c 1)).trans ((largest_arr (V1 m ρ) c).trans
    (congrArg (fun z : S32768x1664.Idx → EReal => fun _ : S1.Idx => amax z) (W1_rows m ρ c)))

/-- The exponent of the scale of x. -/
abbrev expo (c : Dev nD) : IVec S1 32 := exponent table 0x3B124925#32 (fun _ => amax (rows m c))

theorem W14_scale (c : Dev nD) : W14 m ρ c (Proc.devRef .tc main_v33) = twoTo table (expo m c) := by
  refine (scale_afterHost (W2 m ρ c)).trans ?_
  rw [W2_largest, W2_table]

theorem W14_inverse (c : Dev nD) : W14 m ρ c (Proc.devRef .tc main_v45) = twoTo table (negi (expo m c)) := by
  refine (inverse_afterHost (W2 m ρ c)).trans ?_
  rw [W2_largest, W2_table]

theorem W14_rows (c : Dev nD) : W14 m ρ c (Proc.devRef .tc main_v0) = rows m c :=
  (W14_of m ρ c main_v0 (by decide)).trans <| (W13_of m ρ c main_v0 (by decide)).trans <| (W12_of m ρ c main_v0 (by decide)).trans <| (W11_of m ρ c main_v0 (by decide)).trans <| (W10_of m ρ c main_v0 (by decide)).trans <| (W9_of m ρ c main_v0 (by decide)).trans <| (W8_of m ρ c main_v0 (by decide)).trans <| (W7_of m ρ c main_v0 (by decide)).trans <| (W6_of m ρ c main_v0 (by decide)).trans <| (W5_of m ρ c main_v0 (by decide)).trans <| (W4_of m ρ c main_v0 (by decide)).trans <| (W3_of m ρ c main_v0 (by decide)).trans <| (W2_of m ρ c main_v0 (by decide)).trans <| W1_rows m ρ c

/-- The codes of x with the inverse of its own scale. -/
def result0 (c : Dev nD) : S1664x32768.Idx → EReal := codes (rows m c) (word (twoTo table (negi (expo m c))))

theorem W15_codes (c : Dev nD) : W15 m ρ c (Proc.devRef .tc main_v46) = result0 m c := by
  refine (W15_arr m ρ c 2).trans ((arr_codes (V14 m ρ) c).trans ?_)
  unfold codesOf result0
  exact congrArg₂ (fun (X : S32768x1664.Idx → EReal) (w : S1.Idx → EReal) => codes X (word w)) (W14_rows m ρ c) (W14_inverse m ρ c)

theorem W15_scale (c : Dev nD) : W15 m ρ c (Proc.devRef .tc main_v33) = twoTo table (expo m c) :=
  (W15_of_ne m ρ c main_v33 (by decide)).trans (W14_scale m ρ c)

theorem W15_inverse (c : Dev nD) : W15 m ρ c (Proc.devRef .tc main_v45) = twoTo table (negi (expo m c)) :=
  (W15_of m ρ c main_v45 (by decide)).trans (W14_inverse m ρ c)

set_option backward.isDefEq.respectTransparency.types false in
/-- The program over the reals leaves the codes of x, the scale of x and its inverse, and x unchanged. -/
theorem run_values : θ_run defs (onTc (τ := τ) (main (F := Ideal))) ⟨m, fun _ => 0, ρ⟩ (fun r => ∀ c : Dev nD,
      r.2.mem ((c.tc : Thread nD τ).loc main_v46) = result0 m c
      ∧ r.2.mem ((c.tc : Thread nD τ).loc main_v33) = twoTo table (expo m c)
      ∧ r.2.mem ((c.tc : Thread nD τ).loc main_v45) = twoTo table (negi (expo m c))
      ∧ r.2.mem ((c.tc : Thread nD τ).loc main_arg0) = m ((c.tc : Thread nD τ).loc main_arg0)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h _ c =>
      ⟨(h c _ (mem_uc main_v46 (by decide))).trans (W15_codes m ρ c), (h c _ (mem_uc main_v33 (by decide))).trans (W15_scale m ρ c),
        (h c _ (mem_uc main_v45 (by decide))).trans (W15_inverse m ρ c), (h c _ (mem_uc main_arg0 (by decide))).trans (W15_main_arg0 m ρ c)⟩)

end Cert.KernelXIdeal.Hand

end

end
-- ==== Proof.ReferenceX.lean ====
/-
  The reference of x over the reals: its codes, its scale and the inverse of the scale.
-/
module

public import proofs.«01_k».proof.Proof.Gen.ReferenceXIdeal.Value
public import proofs.«01_k».proof.Proof.Amax
public import proofs.«01_k».proof.Proof.XQuant
public import Idealize.ShloMosaic.Lib.StableHlo.Run

@[expose] public section

set_option maxRecDepth 8192
set_option maxHeartbeats 800000

noncomputable section

namespace Cert.ReferenceXIdeal.Hand

open Cert.ReferenceXIdeal Cert.ReferenceXIdeal.Gen Cert.Largest Cert.Scale
open Idealize.ShloMosaic Idealize.ShloMosaic.TcCoe Idealize.ShloMosaic.Tactic Idealize.ShloMosaic.StableHlo
open Idealize.SL.Sem
open Idealize.ShloMosaic.Pipeline (Dat)
open Cert.KernelXIdeal.Hand (clip codes word)

theorem readAt_word (v : View sig .tc .smem S1 .f32) (f : v.ty.Contents (Elt Ideal)) (h) :
    View.readAt (Elt Ideal) v (Rect.unit (s := S1) ![0] S1.size inb_S1_S1_0).toLoadRect f (Shape.Idx.first h) = word (v.read (Elt Ideal) f) := by
  rw [View.readAt_apply]
  exact congrArg (v.read (Elt Ideal) f) (funext fun a => by fin_cases a; rfl)

theorem pay_congr {a a' : Vec Ideal S1664x32768 .bf16} {b b' : EReal} (ha : a = a') (hb : b = b') :
    k0_pay1 (F := Ideal) a b = k0_pay1 (F := Ideal) a' b' := by subst ha hb; rfl

theorem out_codes (c : Dev nD) (arg0 : Memref sig .tc .vmem S1664x32768 .bf16) (harg0 : arg0.IsWhole) (arg1 : Memref sig .tc .smem S1 .f32) (harg1 : arg1.IsWhole) (arg2 : Memref sig .tc .vmem S1664x32768 .fp8e4m3) (harg2 : arg2.IsWhole)
    (x0 : Vec Ideal S1664x32768 .bf16) (x1 : Vec Ideal S1 .f32) :
    out0_A_2 c arg0 harg0 arg1 harg1 arg2 harg2 x0 x1 = k0_pay1 (F := Ideal) x0 (word x1) := by
  unfold out0_A_2
  exact (View.read_writes_full _ _ inb_S1664x32768_S1664x32768_0_0 _ _).trans
    (pay_congr ((View.readAt_full _ _ _).trans (harg0.read_unread _)) ((readAt_word _ _ _).trans (congrArg word (harg1.read_unread _))))

theorem pay_apply (X : Vec Ideal S1664x32768 .bf16) (w : EReal) (j : S1664x32768.Idx) : k0_pay1 (F := Ideal) X w j = clip (X j * w) := by
  unfold k0_pay1 clip
  pointwise

variable (m : (ℓ : Loc nD τ sig) → Buf (Elt Ideal) ℓ) (ρ : Dev nD → PrngReg)

/-- The table of the powers of two. -/
abbrev table : FVec Ideal ST .f32 := fun i => FloatOps.ofBits .f32 (lit0 (S277.rowMajor i))

/-- The exponent of the scale of x. -/
abbrev expo (c : Dev nD) : IVec S1 32 :=
  exponent table 0x3B124925#32 (fun _ => amax (fun i : S4x8192x1664.Idx => m ((c : Thread nD τ).loc main_arg0) i))

/-- x as 32768 rows. -/
abbrev rows (c : Dev nD) : S32768x1664.Idx → EReal := shapeCast S32768x1664 (m ((c : Thread nD τ).loc main_arg0)) shapeCasts_S4x8192x1664_S32768x1664

set_option maxHeartbeats 30000000 in
theorem V_scale (c : Dev nD) : V m c main_v32 = twoTo table (expo m c) := by
  unfold expo
  rw [← host_amax (axes := [0, 1, 2]) (s := S4x8192x1664) (u := S_) (m ((c : Thread nD τ).loc main_arg0)) bitsLt_bf16_f32 reducesTo_S4x8192x1664_S_d0_1_2 h_S_ shapeCasts_S_S1]
  simp only [V, List.flatten, List.append, hostOps0, hostOps0_1, hostOps0_2, hostOps0_3, hostOps0_4, hostOps0_5, hostOps0_6, hostOps0_7, hostOps0_8, hostOps0_9, hostOps0_10, hostOps0_11, hostOps0_12,
    TRef.ternary, TRef.unary, TRef.toBuf, TRef.ofBuf, cast_eq]
  after_results_simp <;> rfl

set_option maxHeartbeats 30000000 in
theorem V_inverse (c : Dev nD) : V m c main_v44 = twoTo table (negi (expo m c)) := by
  unfold expo
  rw [← host_amax (axes := [0, 1, 2]) (s := S4x8192x1664) (u := S_) (m ((c : Thread nD τ).loc main_arg0)) bitsLt_bf16_f32 reducesTo_S4x8192x1664_S_d0_1_2 h_S_ shapeCasts_S_S1]
  simp only [V, List.flatten, List.append, hostOps0, hostOps0_1, hostOps0_2, hostOps0_3, hostOps0_4, hostOps0_5, hostOps0_6, hostOps0_7, hostOps0_8, hostOps0_9, hostOps0_10, hostOps0_11, hostOps0_12,
    TRef.ternary, TRef.unary, TRef.toBuf, TRef.ofBuf, cast_eq]
  after_results_simp <;> rfl

/-- The last two host lines: x as rows, then transposed. -/
theorem last_columns (U : Valuation τ sig (Elt Ideal)) : after hostOps0_12 U (Proc.devRef .tc main_v46)
    = transpose S1664x32768 [1, 0] (shapeCast S32768x1664 (U (Proc.devRef .tc main_arg0)) shapeCasts_S4x8192x1664_S32768x1664) transposes_S32768x1664_S1664x32768_1_0 := by
  simp only [hostOps0_12]
  after_results_simp
  rfl

theorem after_append (l₁ l₂ : List (HloOp τ sig (Elt Ideal))) (U : Valuation τ sig (Elt Ideal)) : after (l₁ ++ l₂) U = after l₂ (after l₁ U) := by
  induction l₁ generalizing U with
  | nil => rfl
  | cons op l ih => exact ih _

theorem first_arg (U : Valuation τ sig (Elt Ideal)) :
    after (List.flatten [hostOps0, hostOps0_1, hostOps0_2, hostOps0_3, hostOps0_4, hostOps0_5, hostOps0_6, hostOps0_7, hostOps0_8, hostOps0_9, hostOps0_10, hostOps0_11]) U
      (Proc.devRef .tc main_arg0) = U (Proc.devRef .tc main_arg0) := by
  simp only [List.flatten, List.append, hostOps0, hostOps0_1, hostOps0_2, hostOps0_3, hostOps0_4, hostOps0_5, hostOps0_6, hostOps0_7, hostOps0_8, hostOps0_9, hostOps0_10, hostOps0_11,
    TRef.ternary, TRef.unary, TRef.toBuf, TRef.ofBuf, cast_eq]
  after_results_simp

theorem V_columns (c : Dev nD) : V m c main_v46 = transpose S1664x32768 [1, 0] (rows m c) transposes_S32768x1664_S1664x32768_1_0 := by
  have h : V m c main_v46 = after hostOps0_12 (after (List.flatten [hostOps0, hostOps0_1, hostOps0_2, hostOps0_3, hostOps0_4, hostOps0_5, hostOps0_6, hostOps0_7,
      hostOps0_8, hostOps0_9, hostOps0_10, hostOps0_11]) (fun b => m (c, b))) (Proc.devRef .tc main_v46) := by
    rw [← after_append]
    rfl
  rw [h, last_columns, first_arg]

/-- The one point's block of each window is its whole array. -/
theorem read0 (t : Fin cfg0.N) (g : S1664x32768.Idx → EReal) : ((cfg0.win 0).blk t).view.read (Elt Ideal) g = g := by
  funext y
  refine congrArg g (funext fun a => Fin.ext ?_)
  exact (win0_0.rect_emb_val t y a).trans (by show 0 * _ + _ = _; rw [Nat.zero_mul, Nat.zero_add])
theorem read1 (t : Fin cfg0.N) (g : S1.Idx → EReal) : ((cfg0.win 1).blk t).view.read (Elt Ideal) g = g := by
  funext y
  refine congrArg g (funext fun a => Fin.ext ?_)
  exact (win0_1.rect_emb_val t y a).trans (by show 0 * _ + _ = _; rw [Nat.zero_mul, Nat.zero_add])
theorem iblk0 (c : Dev nD) (t : Fin cfg0.N) : iblk (F := Ideal) m c 0 t = V m c main_v46 := by
  unfold iblk
  exact read0 t _
theorem iblk1 (c : Dev nD) (t : Fin cfg0.N) : iblk (F := Ideal) m c 1 t = V m c main_v44 := by
  unfold iblk
  exact read1 t _

/-- The codes of x with the inverse of its own scale. -/
def result0 (c : Dev nD) : S1664x32768.Idx → EReal := codes (rows m c) (word (twoTo table (negi (expo m c))))

/-- The codes from the transposed rows. -/
theorem pay_columns (X : S32768x1664.Idx → EReal) (w : EReal) :
    k0_pay1 (F := Ideal) (transpose S1664x32768 [1, 0] X transposes_S32768x1664_S1664x32768_1_0) w = codes X w := by
  funext j
  rw [pay_apply]
  unfold codes
  exact congrArg (fun z => clip (z * _)) (transpose_apply _ _ _ j (ix2 (j 1) (j 0)) fun b => match b with | ⟨0, _⟩ => rfl | ⟨1, _⟩ => rfl)

theorem pay_eq (c : Dev nD) : k0_pay1 (F := Ideal) (V m c main_v46) (word (V m c main_v44)) = result0 m c :=
  (pay_congr (V_columns m c) (congrArg word (V_inverse m c))).trans (pay_columns _ _)

theorem arr_codes (c : Dev nD) : (dats m 0 c).arrAt 2 cfg0.N = result0 m c := by
  refine (dats m 0 c).arrAt_eq_of_cover 2 (result0 m c) (fun t hf => ?_) (fun i => ?_)
  · rw [Cert.ReferenceXIdeal.Value.flushed2_A, out_codes, iblk0, iblk1, pay_eq]
    funext y
    refine congrArg (result0 m c) (funext fun a => Fin.ext ?_)
    exact ((win0_2.rect_emb_val t y a).trans (by show 0 * _ + _ = _; rw [Nat.zero_mul, Nat.zero_add])).symm
  · refine ⟨t0_0, flush0_2 _, ?_⟩
    show i ∈ ((View.whole main_v47).slice (win0_2.rect t0_0)).set
    rw [View.set_slice_whole, Rect.mem_set_unit]
    intro a
    have h := (i a).isLt
    show 0 * _ ≤ _ ∧ (i a).val < 0 * _ + _
    rw [Nat.zero_mul, Nat.zero_add]
    exact ⟨Nat.zero_le _, h⟩

/-- The reference over the reals leaves the codes of x, the scale of x and its inverse, and x unchanged. -/
theorem run_values : θ_run defs (onTc (τ := τ) (main (F := Ideal))) ⟨m, fun _ => 0, ρ⟩ (fun r => ∀ c : Dev nD,
      r.2.mem ((c.tc : Thread nD τ).loc main_v47) = result0 m c
      ∧ r.2.mem ((c.tc : Thread nD τ).loc main_v32) = twoTo table (expo m c)
      ∧ r.2.mem ((c.tc : Thread nD τ).loc main_v44) = twoTo table (negi (expo m c))
      ∧ r.2.mem ((c.tc : Thread nD τ).loc main_arg0) = m ((c.tc : Thread nD τ).loc main_arg0)) :=
  (θ_run defs _ _).mono (fun r h c =>
    ⟨(Cert.ReferenceXIdeal.Value.post2 m r h c).trans (arr_codes m c),
      ((h c).2 main_v32 (Pipeline.mem_restRefs_of main_v32 (by decide) (by decide))).trans (V_scale m c),
      ((h c).1 1).trans (((dats m 0 c).arrAt_in 1 rfl _).trans ((A_eq m c 1).trans (V_inverse m c))),
      Cert.ReferenceXIdeal.Value.kept_main_arg0 m r h c⟩)
    (run_main m ρ)

end Cert.ReferenceXIdeal.Hand

end

end
-- ==== Proof.XEquation.lean ====
/-
  The two calls of x and their reference over the reals leave equal results.
-/
module

public import proofs.«01_k».proof.Defs
public import proofs.«01_k».proof.Proof.XRun
public import proofs.«01_k».proof.Proof.ReferenceX

@[expose] public section

noncomputable section

namespace Cert.XEquation

open Idealize.ShloMosaic Idealize.ShloMosaic.TcCoe Idealize.SL.Sem
open Cert.Largest Cert.Scale

/-- Both programs print the same table of powers of two. -/
theorem table_eq : Cert.ReferenceXIdeal.Hand.table = Cert.KernelXIdeal.Hand.table := by
  have h : ∀ i : Fin 277, Cert.ReferenceXIdeal.lit0 i = Cert.KernelXIdeal.lit0 i := by decide +kernel
  exact funext fun i => congrArg (FloatOps.ofBits (F := Ideal) .f32) (h _)

/-- From the same x, the calls `amax_x` and `quant_x` with the host lines between them and the plain reference leave the same
    codes, the same scale and the same inverse scale. -/
theorem algebraic : Cert.algebraic_KernelXIdeal_ReferenceXIdeal := by
  intro m g m' g' _ hx
  have e : ∀ c, Cert.ReferenceXIdeal.Hand.expo m' c = Cert.KernelXIdeal.Hand.expo m c := fun c => by
    unfold Cert.ReferenceXIdeal.Hand.expo Cert.KernelXIdeal.Hand.expo Cert.KernelXIdeal.Hand.rows
    rw [table_eq, hx c]
    exact congrArg (fun z => exponent Cert.KernelXIdeal.Hand.table 0x3B124925#32 fun _ => z) (amax_shapeCast _ _).symm
  refine ⟨fun c => Cert.KernelXIdeal.Hand.result0 m c, fun c => twoTo Cert.KernelXIdeal.Hand.table (Cert.KernelXIdeal.Hand.expo m c),
    fun c => twoTo Cert.KernelXIdeal.Hand.table (negi (Cert.KernelXIdeal.Hand.expo m c)), Cert.KernelXIdeal.Hand.run_values m g, ?_⟩
  refine (θ_run _ _ _).mono (fun r h c => ?_) (Cert.ReferenceXIdeal.Hand.run_values m' g')
  obtain ⟨h0, h1, h2, h3⟩ := h c
  refine ⟨h0.trans ?_, h1.trans ?_, h2.trans ?_, h3⟩
  · unfold Cert.ReferenceXIdeal.Hand.result0 Cert.KernelXIdeal.Hand.result0 Cert.ReferenceXIdeal.Hand.rows Cert.KernelXIdeal.Hand.rows
    rw [e, table_eq, hx c]
  · rw [e, table_eq]
  · rw [e, table_eq]

end Cert.XEquation

end

end
-- ==== Proof.DyBlock.lean ====
/-
  The largest absolute values of dy, block by block: what a block of the call `amax_dy` leaves of the running maximum, and what
  its upper bounds are.
-/
module

public import proofs.«01_k».proof.Proof.Largest
public import proofs.«01_k».proof.Proof.Gen.KernelDyIdeal.Frame

@[expose] public section

set_option maxRecDepth 16384

noncomputable section

namespace Cert.KernelDyIdeal.Hand

open Cert.KernelDyIdeal Cert.KernelDyIdeal.Gen Cert.Largest
open Idealize.ShloMosaic Idealize.ShloMosaic.TcCoe Idealize.ShloMosaic.Tactic

theorem hz : (![0, 0] : Fin 2 → Nat) = fun _ => 0 := by funext k; fin_cases k <;> rfl

/-- The running maximum after the chunks of a block, from what it was. -/
def overBlock (x0 : Vec Ideal S128x19584 .bf16) (a : Vec Ideal S16x128 .bf16) : Vec Ideal S16x128 .bf16 :=
  (List.range 153).foldl (fun a k => k0_pay1 (F := Ideal) a (slice (by decide) x0 (128 * k))) a

/-- A chunk read from a block is its 128 columns. -/
theorem readAt_slice (arg1 : Memref sig .tc .vmem S128x19584 .bf16) (harg1 : arg1.IsWhole) (x0 : Vec Ideal S128x19584 .bf16) (o : ℕ)
    (inb : ∀ a, (![0, o] : Fin 2 → Nat) a + S128x128.size a ≤ S128x19584.size a) :
    View.readAt (Elt Ideal) arg1.view (Rect.unit (s := S128x19584) ![0, o] S128x128.size inb).toLoadRect (harg1.unread x0)
      = slice (by decide) x0 o := by
  funext j
  rw [View.readAt_apply, harg1.read_unread]
  refine congrArg x0 (funext fun a => Fin.ext ?_)
  have h1 : (j 1).val < 128 := (j 1).isLt
  have h2 : o + 128 ≤ 19584 := inb 1
  fin_cases a
  · exact (Nat.zero_add _).trans (by show 1 * _ = _; exact Nat.one_mul _)
  · show o + 1 * (j 1).val = (o + (j 1).val) % 19584
    rw [Nat.one_mul, Nat.mod_eq_of_lt (by omega)]

set_option maxHeartbeats 8000000 in
theorem out_B (c : Dev nD) (i : grid0.Coords) (arg1 : Memref sig .tc .vmem S128x19584 .bf16) (harg1 : arg1.IsWhole) (arg2 : Memref sig .tc .vmem S16x128 .bf16) (harg2 : arg2.IsWhole) (hc0 : ¬cond0_0 i)
    (x0 : Vec Ideal S128x19584 .bf16) (xo1 : Vec Ideal S16x128 .bf16) :
    out0_B_1 c i arg1 harg1 arg2 harg2 hc0 x0 xo1 = overBlock x0 xo1 := by
  unfold out0_B_1
  rw [View.read_writes_eq_canon _ _ _ (cover0_B_1 c i arg1 harg1 arg2 harg2 hc0 x0 xo1)]
  unfold kernelRun0_B
  dsimp only
  sl_unfold_words
  rw [View.canon_unit_zero hz]
  repeat rw [readAt_slice arg1 harg1 x0]
  simp only [View.readAt_eq_ld, harg2.read_unread, View.ld_unit_zero (S := S16x128) hz]
  refine Eq.trans ?_ (congrArg (overBlock x0) (shapeCast_self xo1 shapeCasts_S16x128_S16x128))
  rfl

set_option maxHeartbeats 8000000 in
theorem out_A (c : Dev nD) (i : grid0.Coords) (arg1 : Memref sig .tc .vmem S128x19584 .bf16) (harg1 : arg1.IsWhole) (arg2 : Memref sig .tc .vmem S16x128 .bf16) (harg2 : arg2.IsWhole) (hc0 : cond0_0 i)
    (x0 : Vec Ideal S128x19584 .bf16) :
    out0_A_1 c i arg1 harg1 arg2 harg2 hc0 x0 = overBlock x0 (k0_pay2 (F := Ideal)) := by
  unfold out0_A_1
  rw [View.read_writes_eq_canon _ _ _ (cover0_A_1 c i arg1 harg1 arg2 harg2 hc0 x0)]
  unfold kernelRun0_A
  dsimp only
  sl_unfold_words
  rw [View.canon_cons_unit_zero (S := S16x128) hz]
  repeat rw [readAt_slice arg1 harg1 x0]
  simp only [View.readCov_unit_zero (S := S16x128) _ hz]
  refine Eq.trans ?_ (congrArg (overBlock x0) (shapeCast_self (k0_pay2 (F := Ideal)) shapeCasts_S16x128_S16x128))
  rfl

/-- The upper bounds of the running maximum after a block: those of what it was and of the block's absolute values. -/
theorem allLe_overBlock (x0 : Vec Ideal S128x19584 .bf16) (a : Vec Ideal S16x128 .bf16) (b : EReal) :
    AllLe (overBlock x0 a) b ↔ AllLe a b ∧ AllLe (fun i => mag (x0 i)) b := by
  unfold overBlock
  rw [allLe_foldl _ (fun k i => mag (slice (by decide : 0 < 19584) x0 (128 * k) i)) b fun a k => by
      unfold k0_pay1; exact allLe_step a _ _ _ _ _ _ b,
    ← allLe_slices (n := 153) (by decide) (by decide) x0 b]
  simp only [List.mem_range]

end Cert.KernelDyIdeal.Hand

end

end
-- ==== Proof.DyScale.lean ====
/-
  The host lines between the call of dy and the results: the scale and its inverse are those of the largest entry of the running maximum.
-/
module

public import proofs.«01_k».proof.Proof.Scale
public import proofs.«01_k».proof.Proof.Gen.KernelDyIdeal.Frame
public import Idealize.ShloMosaic.Lib.StableHlo.Run

@[expose] public section

set_option maxRecDepth 8192

noncomputable section

namespace Cert.KernelDyIdeal.Hand

open Cert.KernelDyIdeal Cert.KernelDyIdeal.Gen Cert.Scale
open Idealize.ShloMosaic Idealize.ShloMosaic.TcCoe Idealize.ShloMosaic.Tactic Idealize.ShloMosaic.StableHlo

/-- The largest entry of the running maximum. -/
def largest (p : Vec Ideal S16x128 .bf16) : FVec Ideal S1 .f32 :=
  shapeCast _ (Host.reduce FloatOps.maximumf (extf (F := Ideal) .f32 p bitsLt_bf16_f32) (constant (F := Ideal) S_ .f32 0xFF800000#32) reducesTo_S16x128_S_d0_1 h_S_) shapeCasts_S_S1

variable (U : Valuation τ sig (Elt Ideal))

/-- The buffers after the host lines between the calls, from those before. -/
abbrev afterHost : Valuation τ sig (Elt Ideal) :=
  after hostOps1_11 (after hostOps1_10 (after hostOps1_9 (after hostOps1_8 (after hostOps1_7 (after hostOps1_6 (after hostOps1_5 (after hostOps1_4
    (after hostOps1_3 (after hostOps1_2 (after hostOps1_1 (after hostOps1 U)))))))))))

set_option maxHeartbeats 30000000 in
theorem scale_afterHost : afterHost U (Proc.devRef .tc main_v33)
    = twoTo (U (Proc.devRef .tc main_cst)) (exponent (U (Proc.devRef .tc main_cst)) 0x37924925#32 (largest (U (Proc.devRef .tc main_v1)))) := by
  simp only [afterHost, hostOps1, hostOps1_1, hostOps1_2, hostOps1_3, hostOps1_4, hostOps1_5, hostOps1_6, hostOps1_7, hostOps1_8, hostOps1_9, hostOps1_10, hostOps1_11,
    TRef.ternary, TRef.unary, TRef.toBuf, TRef.ofBuf, cast_eq]
  after_results_simp <;> rfl

set_option maxHeartbeats 30000000 in
theorem inverse_afterHost : afterHost U (Proc.devRef .tc main_v45)
    = twoTo (U (Proc.devRef .tc main_cst)) (negi (exponent (U (Proc.devRef .tc main_cst)) 0x37924925#32 (largest (U (Proc.devRef .tc main_v1))))) := by
  simp only [afterHost, hostOps1, hostOps1_1, hostOps1_2, hostOps1_3, hostOps1_4, hostOps1_5, hostOps1_6, hostOps1_7, hostOps1_8, hostOps1_9, hostOps1_10, hostOps1_11,
    TRef.ternary, TRef.unary, TRef.toBuf, TRef.ofBuf, cast_eq]
  after_results_simp <;> rfl

end Cert.KernelDyIdeal.Hand

end

end
-- ==== Proof.DyMax.lean ====
/-
  The largest absolute value of dy: what the call `amax_dy` leaves in its array of partial maxima, and that the scale and its
  inverse are those of the largest absolute value of dy.
-/
module

public import proofs.«01_k».proof.Proof.DyBlock
public import proofs.«01_k».proof.Proof.DyScale
public import proofs.«01_k».proof.Proof.Amax

@[expose] public section

noncomputable section

namespace Cert.KernelDyIdeal.Hand

open Cert.KernelDyIdeal Cert.KernelDyIdeal.Gen Cert.Largest Cert.Scale
open Idealize.ShloMosaic Idealize.ShloMosaic.TcCoe Idealize.ShloMosaic.Tactic
open Idealize.ShloMosaic.Pipeline (Dat)

section
variable (m : (ℓ : Loc nD τ sig) → Buf (Elt Ideal) ℓ)

/-- The absolute values of the block that point `t` of the call reads. -/
def blockMag (c : Dev nD) (t : Fin cfg0.N) : S128x19584.Idx → EReal := fun j => mag (iblk (F := Ideal) m c 0 t j)

/-- The running maximum starts at zero. -/
theorem allLe_start (b : EReal) : AllLe (k0_pay2 (F := Ideal)) b ↔ 0 ≤ b := by
  have e : ∀ j, k0_pay2 (F := Ideal) j = 0 := fun j => by
    show Ideal.ofBits .bf16 0x0000#16 = 0
    simp [Ideal.ofBits, Ideal.ieee]
  constructor
  · exact fun g => le_of_eq_of_le (e (ix2 0 0)).symm (g (ix2 0 0))
  · exact fun g j => le_of_eq_of_le (e j) g

/-- The upper bounds of the running maximum after each point: those of zero and of the blocks so far. -/
theorem allLe_outsAt (c : Dev nD) (b : EReal) (n : ℕ) (hn : n < cfg0.N) :
    AllLe (outsAt0 m c n hn) b ↔ 0 ≤ b ∧ ∀ t : Fin cfg0.N, t.val ≤ n → AllLe (blockMag m c t) b := by
  induction n with
  | zero =>
    rw [outsAt0_A m c ⟨0, hn⟩ rfl, out_A, allLe_overBlock, allLe_start]
    refine and_congr_right fun _ => ⟨fun g t ht => ?_, fun g => g ⟨0, hn⟩ le_rfl⟩
    obtain rfl : t = ⟨0, hn⟩ := Fin.ext (Nat.le_zero.mp ht)
    exact g
  | succ n ih =>
    have hN : n + 1 < 256 := lt_of_lt_of_eq hn N_0
    have hs : ¬ (n + 1) % 256 = 0 := by omega
    rw [outsAt0_B m c ⟨n + 1, hn⟩ hs, out_B, allLe_overBlock]
    rw [show outsAt0 m c ((⟨n + 1, hn⟩ : Fin cfg0.N).val - 1) _ = outsAt0 m c n (Nat.lt_of_succ_lt hn) from rfl,
      ih (Nat.lt_of_succ_lt hn), and_assoc]
    refine and_congr_right fun _ => ⟨fun g t ht => ?_, fun g => ⟨fun t ht => g t (by omega), g ⟨n + 1, hn⟩ le_rfl⟩⟩
    rcases Nat.lt_or_ge n t.val with h | h
    · obtain rfl : t = ⟨n + 1, hn⟩ := Fin.ext (le_antisymm ht h)
      exact g.2
    · exact g.1 t h

theorem coords0_0 (t : Fin cfg0.N) : (grid0.coords t 0).val = t.val := by
  have ht : t.val < 256 := lt_of_lt_of_eq t.isLt N_0
  have e : (grid0.coords t 0).val = t.val / 1 % 256 := Pipeline.Grid.coords_val t 0 (by decide) rfl
  omega

theorem idx0_0 (t : Fin cfg0.N) : cc0_transform_0 (grid0.coords t) 0 = t.val := by
  have ht : t.val < 256 := lt_of_lt_of_eq t.isLt N_0
  show (BitVec.ofNat 32 (grid0.coords t 0).val).toNat = _
  rw [coords0_0, BitVec.toNat_ofNat]
  exact Nat.mod_eq_of_lt (by omega)

/-- The blocks of all points hold every row of dy. -/
theorem allLe_blocks (c : Dev nD) (b : EReal) :
    (∀ t : Fin cfg0.N, AllLe (blockMag m c t) b) ↔ AllLe (fun i : S32768x19584.Idx => mag (V m c main_v0 i)) b := by
  constructor
  · intro g i
    have h0 : (i 0).val < 32768 := (i 0).isLt
    have hN : (i 0).val / 128 < cfg0.N := by show _ < 256; omega
    refine le_of_eq_of_le (congrArg (fun z => mag (V m c main_v0 z)) ?_) (g ⟨(i 0).val / 128, hN⟩ (ix2 ⟨(i 0).val % 128, by omega⟩ (i 1)))
    refine funext fun a => Fin.ext ?_
    refine Eq.trans ?_ (win0_0.rect_emb_val ⟨(i 0).val / 128, hN⟩ (ix2 ⟨(i 0).val % 128, by omega⟩ (i 1)) a).symm
    match a with
    | ⟨0, _⟩ =>
      show _ = cc0_transform_0 (grid0.coords _) 0 * 128 + (i 0).val % 128
      rw [idx0_0]
      show (i 0).val = (i 0).val / 128 * 128 + (i 0).val % 128
      omega
    | ⟨1, _⟩ =>
      show (i 1).val = 0 * 19584 + (i 1).val
      omega
  · exact fun g t j => g _

/-- The last point of the call. -/
abbrev t255 : Fin cfg0.N := ⟨255, by decide⟩

/-- The array of partial maxima at the end is the running maximum after the last point. -/
theorem arr_max (c : Dev nD) : (dats m 0 c).arrAt 1 cfg0.N = outsAt0 m c 255 (by decide) := by
  refine (dats m 0 c).arrAt_eq_of_cover 1 (outsAt0 m c 255 (by decide)) (fun t hf => ?_) (fun i => ?_)
  · have ht : t.val < 256 := lt_of_lt_of_eq t.isLt N_0
    have h255 : t.val % 256 = 255 := (flush0_1 t).mp hf
    obtain rfl : t = t255 := Fin.ext (by show t.val = 255; omega)
    funext y
    refine congrArg (outsAt0 m c 255 (by decide)) (funext fun a => Fin.ext ?_)
    refine Eq.trans ?_ (win0_1.rect_emb_val t255 y a).symm
    match a with
    | ⟨0, _⟩ => show (y 0).val = 0 * 16 + (y 0).val; omega
    | ⟨1, _⟩ => show (y 1).val = 0 * 128 + (y 1).val; omega
  · refine ⟨t255, (flush0_1 _).mpr rfl, ?_⟩
    show i ∈ ((View.whole main_v1).slice (win0_1.rect t255)).set
    rw [View.set_slice_whole, Rect.mem_set_unit]
    intro a
    have h := (i a).isLt
    match a with
    | ⟨0, _⟩ => exact ⟨by show 0 * 16 ≤ _; omega, by show (i 0).val < 0 * 16 + 16; have : (i 0).val < 16 := (i 0).isLt; omega⟩
    | ⟨1, _⟩ => exact ⟨by show 0 * 128 ≤ _; omega, by show (i 1).val < 0 * 128 + 128; have : (i 1).val < 128 := (i 1).isLt; omega⟩

/-- The upper bounds of the partial maxima: those of the absolute values of dy. -/
theorem allLe_partial (c : Dev nD) (b : EReal) :
    AllLe (outsAt0 m c 255 (by decide)) b ↔ AllLe (fun i : S32768x19584.Idx => mag (V m c main_v0 i)) b := by
  rw [allLe_outsAt, ← allLe_blocks]
  constructor
  · exact fun g t => g.2 t (by have := lt_of_lt_of_eq t.isLt N_0; omega)
  · exact fun g => ⟨le_trans (mag_nonneg _) (g ⟨0, by decide⟩ (ix2 0 0)), fun t _ => g t⟩
end

/-- The host's largest entry of an array of partial maxima is the number with the same upper bounds. -/
theorem largest_of (p : Vec Ideal S16x128 .bf16) (a : EReal) (h : ∀ b, AllLe p b ↔ a ≤ b) : largest p = fun _ => a :=
  host_max _ _ _ _ a h

/-- The largest of the partial maxima is the largest absolute value of the reshaped dy. -/
theorem largest_arr (m : (ℓ : Loc nD τ sig) → Buf (Elt Ideal) ℓ) (c : Dev nD) :
    largest ((dats m 0 c).arrAt 1 cfg0.N) = fun _ => amax (fun i : S32768x19584.Idx => V m c main_v0 i) := by
  rw [arr_max]
  exact largest_of _ _ fun b => (allLe_partial m c b).trans (amax_le _ b).symm

end Cert.KernelDyIdeal.Hand

end

end
-- ==== Proof.DyRun.lean ====
/-
  The call of dy over the reals: what the program leaves in its two results.
-/
module

public import proofs.«01_k».proof.Proof.DyMax

@[expose] public section

set_option maxRecDepth 8192
set_option maxHeartbeats 800000

noncomputable section

namespace Cert.KernelDyIdeal.Hand

open Cert.KernelDyIdeal Cert.KernelDyIdeal.Gen Cert.Largest Cert.Scale
open Idealize.ShloMosaic Idealize.ShloMosaic.TcCoe Idealize.ShloMosaic.Tactic Idealize.ShloMosaic.StableHlo
open Idealize.SL.Sem
open Idealize.ShloMosaic.Pipeline (Dat)

variable (m : (ℓ : Loc nD τ sig) → Buf (Elt Ideal) ℓ) (ρ : Dev nD → PrngReg)

/-- The table of the powers of two. -/
abbrev table : FVec Ideal ST .f32 := fun i => FloatOps.ofBits .f32 (lit0 (S277.rowMajor i))

/-- dy as the call reads it: 32768 rows. -/
abbrev rows (c : Dev nD) : S32768x19584.Idx → EReal := shapeCast S32768x19584 (m ((c : Thread nD τ).loc main_arg0)) shapeCasts_S4x8192x19584_S32768x19584

theorem V_rows (c : Dev nD) : V m c main_v0 = rows m c := by
  simp only [V, V0, List.flatten, List.append, hostOps0, TRef.ternary, TRef.unary, TRef.toBuf, TRef.ofBuf, cast_eq]
  after_results_simp <;> rfl

theorem V0_table (c : Dev nD) : V0 m c (Proc.devRef .tc main_cst) = table := by
  simp only [V0, List.flatten, List.append, hostOps0, TRef.ternary, TRef.unary, TRef.toBuf, TRef.ofBuf, cast_eq]
  after_results_simp <;> rfl

/-- The buffers after the call. -/
def afterCall (c : Dev nD) : Valuation τ sig (Elt Ideal) :=
  Pipeline.withArrays spec0 c (V0 m c) fun w => (dats m 0 c).arrAt w cfg0.N

theorem afterCall_table (c : Dev nD) : afterCall m c (Proc.devRef .tc main_cst) = table := by
  unfold afterCall
  exact (Pipeline.withArrays_of_ne spec0 c _ _ main_cst (by decide)).trans (V0_table m c)

/-- The largest of the partial maxima is the largest absolute value of dy. -/
theorem afterCall_largest (c : Dev nD) : largest (afterCall m c (Proc.devRef .tc main_v1)) = fun _ => amax (rows m c) := by
  have h : afterCall m c (Proc.devRef .tc main_v1) = (dats m 0 c).arrAt 1 cfg0.N := by
    unfold afterCall
    exact Pipeline.withArrays_arr spec0 launch0.win.arr_inj c _ _ 1
  exact (congrArg largest h).trans ((largest_arr m c).trans
    (congrArg (fun z : S32768x19584.Idx → EReal => fun _ : S1.Idx => amax z) (V_rows m c)))

/-- The exponent of the scale of dy. -/
abbrev expo (c : Dev nD) : IVec S1 32 := exponent table 0x37924925#32 (fun _ => amax (rows m c))

theorem after_append (l₁ l₂ : List (HloOp τ sig (Elt Ideal))) (U : Valuation τ sig (Elt Ideal)) : after (l₁ ++ l₂) U = after l₂ (after l₁ U) := by
  induction l₁ generalizing U with
  | nil => rfl
  | cons op l ih => exact ih _

/-- The buffers at the end: those after the host lines that follow the call. -/
theorem tail_eq (c : Dev nD) (b : Ref sig .tc) :
    Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11] c b
      = afterHost (afterCall m c) (Proc.devRef .tc b) := by
  unfold Pipeline.afterTail₀
  simp only [List.flatten_cons, List.flatten_nil, List.append_nil, after_append]
  rfl

theorem tail_scale (c : Dev nD) : afterHost (afterCall m c) (Proc.devRef .tc main_v33) = twoTo table (expo m c) := by
  rw [scale_afterHost, afterCall_largest, afterCall_table]

theorem tail_inverse (c : Dev nD) : afterHost (afterCall m c) (Proc.devRef .tc main_v45) = twoTo table (negi (expo m c)) := by
  rw [inverse_afterHost, afterCall_largest, afterCall_table]

/-- The program over the reals leaves the scale of dy and its inverse, and dy unchanged. -/
theorem run_values : θ_run defs (onTc (τ := τ) (main (F := Ideal))) ⟨m, fun _ => 0, ρ⟩ (fun r => ∀ c : Dev nD,
      r.2.mem ((c.tc : Thread nD τ).loc main_v33) = twoTo table (expo m c)
      ∧ r.2.mem ((c.tc : Thread nD τ).loc main_v45) = twoTo table (negi (expo m c))
      ∧ r.2.mem ((c.tc : Thread nD τ).loc main_arg0) = m ((c.tc : Thread nD τ).loc main_arg0)) :=
  (θ_run defs _ _).mono (fun r h c =>
    ⟨((h.1 c).2 main_v33 (Pipeline.mem_restRefs_of main_v33 (by decide) (by decide))).trans ((tail_eq m c main_v33).trans (tail_scale m c)),
      ((h.1 c).2 main_v45 (Pipeline.mem_restRefs_of main_v45 (by decide) (by decide))).trans ((tail_eq m c main_v45).trans (tail_inverse m c)), h.2 c⟩)
    (θ_run_and (run_main m ρ) (unchanged m ρ))

end Cert.KernelDyIdeal.Hand

end

end
-- ==== Proof.DyEquation.lean ====
/-
  The call of dy and its reference over the reals leave equal results.
-/
module

public import proofs.«01_k».proof.Defs
public import proofs.«01_k».proof.Proof.DyRun
public import proofs.«01_k».proof.Proof.Gen.ReferenceDyIdeal.Run

@[expose] public section

set_option maxRecDepth 8192

noncomputable section

namespace Cert.DyEquation

open Idealize.ShloMosaic Idealize.ShloMosaic.TcCoe Idealize.SL.Sem
open Cert.Largest Cert.Scale

section
open Cert.ReferenceDyIdeal Cert.ReferenceDyIdeal.Gen Cert.ReferenceDyIdeal.Value
variable (m : (ℓ : Loc nD τ sig) → Buf (Elt Ideal) ℓ) (c : Dev nD)

/-- The reference's table of the powers of two. -/
abbrev table : FVec Ideal ST .f32 := fun i => FloatOps.ofBits .f32 (lit0 (S277.rowMajor i))

/-- The reference's largest absolute value of dy. -/
abbrev hostLargest : FVec Ideal Scale.S1 .f32 :=
  shapeCast _ (Host.reduce FloatOps.maximumf (Host.absf (extf (F := Ideal) .f32 (m ((c : Thread nD τ).loc main_arg0)) bitsLt_bf16_f32))
    (constant (F := Ideal) S_ .f32 0xFF800000#32) reducesTo_S4x8192x19584_S_d0_1_2 h_S_) shapeCasts_S_S1

theorem hostLargest_eq : hostLargest m c = fun _ => amax (fun i : S4x8192x19584.Idx => m ((c : Thread nD τ).loc main_arg0) i) :=
  host_amax (axes := [0, 1, 2]) (s := S4x8192x19584) (u := S_) (m ((c : Thread nD τ).loc main_arg0)) bitsLt_bf16_f32 reducesTo_S4x8192x19584_S_d0_1_2 h_S_ shapeCasts_S_S1

/-- The reference's scale. -/
theorem scale_eq : res_main_v32 m c = twoTo table (exponent table 0x37924925#32 (hostLargest m c)) := by
  unfold res_main_v32 twoTo exponent
  rfl

/-- The reference's inverse scale. -/
theorem inverse_eq : res_main_v44 m c = twoTo table (negi (exponent table 0x37924925#32 (hostLargest m c))) := by
  unfold res_main_v44 twoTo exponent
  rfl
end

/-- The reference ends with dy as it was; it has no semaphore, so every counter is at zero. -/
theorem frame (m : (ℓ : Loc Cert.ReferenceDyIdeal.nD Cert.ReferenceDyIdeal.τ Cert.ReferenceDyIdeal.sig) → Buf (Elt Ideal) ℓ)
    (g : Dev Cert.ReferenceDyIdeal.nD → PrngReg) (h : Cert.Pre_ReferenceDyIdeal m) :
    θ_run (Cert.ReferenceDyIdeal.defs (F := Ideal)) (onTc (τ := Cert.ReferenceDyIdeal.τ) (Cert.ReferenceDyIdeal.main (F := Ideal))) ⟨m, fun _ => 0, g⟩ (fun r =>
      (∀ c : Dev Cert.ReferenceDyIdeal.nD,
        r.2.mem ((c.tc : Thread Cert.ReferenceDyIdeal.nD Cert.ReferenceDyIdeal.τ).loc Cert.ReferenceDyIdeal.main_arg0)
          = m ((c.tc : Thread Cert.ReferenceDyIdeal.nD Cert.ReferenceDyIdeal.τ).loc Cert.ReferenceDyIdeal.main_arg0))
      ∧ r.2.sem = fun _ => 0) :=
  (θ_run Cert.ReferenceDyIdeal.defs _ _).mono (fun _ h => ⟨fun c => (h c).2.2, funext fun g => by
    obtain ⟨_, s | s⟩ := g <;> exact s.elim0⟩) (Cert.ReferenceDyIdeal.Value.run m g)

/-- Both programs print the same table of powers of two. -/
theorem table_eq : table = Cert.KernelDyIdeal.Hand.table := by
  have h : ∀ i : Fin 277, Cert.ReferenceDyIdeal.lit0 i = Cert.KernelDyIdeal.lit0 i := by decide +kernel
  exact funext fun i => congrArg (FloatOps.ofBits (F := Ideal) .f32) (h _)

/-- From the same dy, the call `amax_dy` with the host lines after it and the plain reference leave the same scale and the same
    inverse scale. -/
theorem algebraic : Cert.algebraic_KernelDyIdeal_ReferenceDyIdeal := by
  intro m g m' g' _ hx
  have e : ∀ c, exponent table 0x37924925#32 (hostLargest m' c) = Cert.KernelDyIdeal.Hand.expo m c := fun c => by
    unfold Cert.KernelDyIdeal.Hand.expo Cert.KernelDyIdeal.Hand.rows
    rw [hostLargest_eq, table_eq, hx c]
    exact congrArg (fun z => exponent Cert.KernelDyIdeal.Hand.table 0x37924925#32 fun _ => z) (amax_shapeCast _ _).symm
  refine ⟨fun c => twoTo Cert.KernelDyIdeal.Hand.table (Cert.KernelDyIdeal.Hand.expo m c),
    fun c => twoTo Cert.KernelDyIdeal.Hand.table (negi (Cert.KernelDyIdeal.Hand.expo m c)), Cert.KernelDyIdeal.Hand.run_values m g, ?_⟩
  refine (θ_run _ _ _).mono (fun r h c => ?_) (Cert.ReferenceDyIdeal.Value.run m' g')
  obtain ⟨h1, h2, h3⟩ := h c
  refine ⟨h1.trans ?_, h2.trans ?_, h3⟩
  · rw [scale_eq, e, table_eq]
  · rw [inverse_eq, e, table_eq]

end Cert.DyEquation

end

end
-- ==== Proof.lean ====
/-
  The claims, for each of the three pairs (the product call, the calls of x, the call of dy): the programs end with their
  arguments as they were and every counter at zero; over the reals the kernel's results are the reference's.
-/
module

public import proofs.«01_k».proof.Defs
public import proofs.«01_k».proof.Proof.KernelFrame
public import proofs.«01_k».proof.Proof.IdealArrays
public import proofs.«01_k».proof.Proof.ReferenceValue
public import proofs.«01_k».proof.Proof.Equation
public import proofs.«01_k».proof.Proof.XEquation
public import proofs.«01_k».proof.Proof.DyEquation
public import proofs.«01_k».proof.Proof.Gen.ReferenceIdeal.Value
public import proofs.«01_k».proof.Proof.Gen.KernelXIdeal.Frame
public import proofs.«01_k».proof.Proof.Gen.KernelX.Frame
public import proofs.«01_k».proof.Proof.Gen.ReferenceXIdeal.Value
public import proofs.«01_k».proof.Proof.Gen.KernelDy.Frame
public import proofs.«01_k».proof.Proof.Gen.KernelDyIdeal.Frame
public import proofs.«01_k».proof.Proof.Gen.ReferenceDyIdeal.Run

@[expose] public section

namespace Cert.Proof

open Idealize.ShloMosaic Idealize.SL.Sem

/-- The product call and its reference over the reals leave equal results. -/
theorem algebraic : Cert.algebraic_KernelIdeal_ReferenceIdeal := fun m g m' g' _ h =>
  ⟨fun c => Cert.KernelIdeal.Hand.prodOf m c, fun c => Cert.KernelIdeal.Hand.codesOf m c,
    (θ_run Cert.KernelIdeal.defs _ _).mono (fun _ h => h.1) (Cert.KernelIdeal.Hand.run_values m g),
    (θ_run Cert.ReferenceIdeal.defs _ _).mono (fun r (hr : ∀ c, _) c =>
      ⟨(hr c).1.trans ((Cert.ReferenceIdeal.Hand.arr4 m' c).trans (prod_eq h c)),
        (hr c).2.1.trans ((Cert.ReferenceIdeal.Hand.arr5 m' c).trans (codes_eq h c)), (hr c).2.2⟩)
      (Cert.ReferenceIdeal.Value.run_blocks m' g')⟩

/-- Every claim of the three pairs. -/
theorem claim : Cert.Claim :=
  ⟨Cert.Kernel.Gen.facts, Cert.KernelIdeal.Gen.facts, Cert.ReferenceIdeal.Gen.facts,
    Cert.KernelX.Gen.facts, Cert.KernelXIdeal.Gen.facts, Cert.ReferenceXIdeal.Gen.facts,
    Cert.KernelDy.Gen.facts, Cert.KernelDyIdeal.Gen.facts, Cert.ReferenceDyIdeal.Gen.facts,
    fun m g _ => Cert.Kernel.Hand.frame_any m g,
    fun m g _ => (θ_run Cert.KernelIdeal.defs _ _).mono (fun _ h => ⟨fun c => (h.1 c).2.2, h.2⟩) (Cert.KernelIdeal.Hand.run_values m g),
    fun m g _ => Cert.ReferenceIdeal.Gen.frame m g,
    fun m g _ => Cert.KernelX.Gen.frame m g,
    fun m g _ => Cert.KernelXIdeal.Gen.frame m g,
    fun m g _ => Cert.ReferenceXIdeal.Gen.frame m g,
    fun m g _ => Cert.KernelDy.Gen.frame m g,
    fun m g _ => Cert.KernelDyIdeal.Gen.frame m g,
    fun m g h => Cert.DyEquation.frame m g h,
    trivial, algebraic, trivial, Cert.XEquation.algebraic, trivial, Cert.DyEquation.algebraic⟩

end Cert.Proof
